-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_mask [hPre_full_mask : Cert.Pre_full_mask.Facts] (m : (ℓ : Loc Cert.KernelIdeal.nD Cert.KernelIdeal.τ Cert.KernelIdeal.sig) → Buf (Elt Ideal) ℓ) : Prop :=
  ∀ c : Dev Cert.KernelIdeal.nD,
    (Cert.Pre_full_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_mask [hPre_full_mask : Cert.Pre_full_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_full_mask [hKernelIdeal : Cert.KernelIdeal.Facts] [hPre_full_mask : Cert.Pre_full_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_full_mask [hReferenceIdeal : Cert.ReferenceIdeal.Facts] [hPre_full_mask : Cert.Pre_full_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_full_mask [hKernelIdeal : Cert.KernelIdeal.Facts] [hReferenceIdeal : Cert.ReferenceIdeal.Facts] [hPre_full_mask : Cert.Pre_full_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_full_mask : Cert.Pre_full_mask.Facts),
    quiescent_Kernel (hKernel := hKernel)
    ∧ quiescent_KernelIdeal (hKernelIdeal := hKernelIdeal)
    ∧ quiescent_KernelIdeal_pre_full_mask (hKernelIdeal := hKernelIdeal) (hPre_full_mask := hPre_full_mask)
    ∧ quiescent_ReferenceIdeal (hReferenceIdeal := hReferenceIdeal)
    ∧ quiescent_ReferenceIdeal_pre_full_mask (hReferenceIdeal := hReferenceIdeal) (hPre_full_mask := hPre_full_mask)
    ∧ preserves_Kernel_KernelIdeal
    ∧ algebraic_KernelIdeal_ReferenceIdeal_pre_full_mask (hKernelIdeal := hKernelIdeal) (hReferenceIdeal := hReferenceIdeal) (hPre_full_mask := hPre_full_mask)
-- ==== Pre_full_mask.lean ====
abbrev S64x512x32 : Shape := ⟨3, ![64, 512, 32]⟩
abbrev S64x512 : Shape := ⟨2, ![64, 512]⟩
abbrev S32x32 : Shape := ⟨2, ![32, 32]⟩
abbrev S_ : Shape := ⟨0, ![]⟩

class Facts : Prop where
  reducesTo_S64x512_S_d0_1 : S64x512.ReducesTo [0, 1] S_
  h_S_ : 0 < S_.numel

variable [Facts]

def fn {F : FTy → Type} [FloatOps F] (main_arg0 : FVec F S64x512x32 .f32) (main_arg1 : IVec S64x512 1) (main_arg2 : FVec F S32x32 .f32) : IVec S_ 1 :=
  let main_c : IVec S_ 1 := constantI S_ 1 1#1
  let main_v0 : IVec S_ 1 := (fun x v => Host.reduce IntOp.andi x v reducesTo_S64x512_S_d0_1 h_S_) main_arg1 main_c
  main_v0
-- ==== Kernel.lean ====
abbrev S64x512x32 : Shape := ⟨3, ![64, 512, 32]⟩
abbrev S64x512 : Shape := ⟨2, ![64, 512]⟩
abbrev S32x32 : Shape := ⟨2, ![32, 32]⟩
abbrev S512x32x64 : Shape := ⟨3, ![512, 32, 64]⟩
abbrev S512x64 : Shape := ⟨2, ![512, 64]⟩
abbrev S32x32x1 : Shape := ⟨3, ![32, 32, 1]⟩
abbrev S32x32x64 : Shape := ⟨3, ![32, 32, 64]⟩
abbrev S32x64 : Shape := ⟨2, ![32, 64]⟩
abbrev S1x32x64 : Shape := ⟨3, ![1, 32, 64]⟩
abbrev S32x1 : Shape := ⟨2, ![32, 1]⟩
abbrev S32x1x64 : Shape := ⟨3, ![32, 1, 64]⟩
abbrev S64 : Shape := ⟨1, ![64]⟩
abbrev S1x64 : Shape := ⟨2, ![1, 64]⟩

abbrev nBuf : Space → Nat
  | .hbm => 7
  | .vmem => 5
  | .smem => 0
  | _ => 0

abbrev bufTy : (tb : Table) → Fin (tcTables nBuf tb) → BufTy
  | .hbm, ⟨0, _⟩ => ⟨S64x512x32, .f32⟩
  | .hbm, ⟨1, _⟩ => ⟨S64x512, .i1⟩
  | .hbm, ⟨2, _⟩ => ⟨S32x32, .f32⟩
  | .hbm, ⟨3, _⟩ => ⟨S512x32x64, .f32⟩
  | .hbm, ⟨4, _⟩ => ⟨S32x32, .f32⟩
  | .hbm, ⟨5, _⟩ => ⟨S512x64, .i32⟩
  | .hbm, ⟨6, _⟩ => ⟨S64x512, .i32⟩
  | .local _ .vmem, ⟨0, _⟩ => ⟨S512x32x64, .f32⟩
  | .local _ .vmem, ⟨1, _⟩ => ⟨S32x32, .f32⟩
  | .local _ .vmem, ⟨2, _⟩ => ⟨S32x32, .f32⟩
  | .local _ .vmem, ⟨3, _⟩ => ⟨S512x64, .i32⟩
  | .local _ .vmem, ⟨4, _⟩ => ⟨S512x32x64, .i32⟩
  | _, _ => ⟨S64x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v11 : BitVec 32 := Scalar.addi c1_i32 c511_i32
  let c1_i32_6 : BitVec 32 := 1#32
  ⟨c1_i32, v11, c1_i32_6⟩
def k0_off1 (k0_t1 : Fin k0_t1_loop.trips) : Fin 3 → Nat :=
  let c1_i32 : BitVec 32 := 1#32
  let c1_i32_6 : BitVec 32 := 1#32
  let arg5 : BitVec 32 := Scf.iv c1_i32 c1_i32_6 k0_t1
  let v27 : Index := Scalar.indexCast arg5
  let c0_13 : Index := 0#32
  let c0_14 : Index := 0#32
  ![v27.toNat, 0, 0]
@[reducible] def k0_t2_loop : Scf.Loop 32 :=
  let c0_i32 : BitVec 32 := 0#32
  let c511_i32_10 : BitVec 32 := 511#32
  let v25 : BitVec 32 := Scalar.addi c0_i32 c511_i32_10
  let c1_i32_11 : BitVec 32 := 1#32
  ⟨c0_i32, v25, c1_i32_11⟩
def k0_off2 (k0_t2 : Fin k0_t2_loop.trips) : Fin 3 → Nat :=
  let c510_i32 : BitVec 32 := 510#32
  let c0_i32 : BitVec 32 := 0#32
  let c1_i32_11 : BitVec 32 := 1#32
  let arg5 : BitVec 32 := Scf.iv c0_i32 c1_i32_11 k0_t2
  let v27 : BitVec 32 := Scalar.subi c510_i32 arg5
  let c1_i32_13 : BitVec 32 := 1#32
  let v28 : BitVec 32 := Scalar.addi v27 c1_i32_13
  let v29 : Index := Scalar.indexCast v28
  let c0_14 : Index := 0#32
  let c0_15 : Index := 0#32
  ![v29.toNat, 0, 0]
def k0_off3 (k0_t2 : Fin k0_t2_loop.trips) : Fin 2 → Nat :=
  let c510_i32 : BitVec 32 := 510#32
  let c0_i32 : BitVec 32 := 0#32
  let c1_i32_11 : BitVec 32 := 1#32
  let arg5 : BitVec 32 := Scf.iv c0_i32 c1_i32_11 k0_t2
  let v27 : BitVec 32 := Scalar.subi c510_i32 arg5
  let v38 : Index := Scalar.indexCast v27
  let c0_18 : Index := 0#32
  ![v38.toNat, 0]
abbrev stage0_0 : Fin 1 → Memref sig .tc .vmem S512x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S64x512x32 : Shape := ⟨3, ![64, 512, 32]⟩
abbrev S64x512 : Shape := ⟨2, ![64, 512]⟩
abbrev S32x32 : Shape := ⟨2, ![32, 32]⟩
abbrev S512x64x32 : Shape := ⟨3, ![512, 64, 32]⟩
abbrev S512x64x1x32 : Shape := ⟨4, ![512, 64, 1, 32]⟩
abbrev S1x1x32x32 : Shape := ⟨4, ![1, 1, 32, 32]⟩
abbrev S512x64x32x32 : Shape := ⟨4, ![512, 64, 32, 32]⟩
abbrev S512x64 : Shape := ⟨2, ![512, 64]⟩
abbrev S1x64x32x32 : Shape := ⟨4, ![1, 64, 32, 32]⟩
abbrev S64x32x32 : Shape := ⟨3, ![64, 32, 32]⟩
abbrev S64x1x32 : Shape := ⟨3, ![64, 1, 32]⟩
abbrev S64x32 : Shape := ⟨2, ![64, 32]⟩
abbrev S511x64x32x32 : Shape := ⟨4, ![511, 64, 32, 32]⟩
abbrev S511x64 : Shape := ⟨2, ![511, 64]⟩
abbrev S_ : Shape := ⟨0, ![]⟩
abbrev S511x64x32 : Shape := ⟨3, ![511, 64, 32]⟩
abbrev S1x64 : Shape := ⟨2, ![1, 64]⟩
abbrev S64 : Shape := ⟨1, ![64]⟩
abbrev S64x32x1 : Shape := ⟨3, ![64, 32, 1]⟩
abbrev S64x1 : Shape := ⟨2, ![64, 1]⟩
abbrev S1x64x32 : Shape := ⟨3, ![1, 64, 32]⟩
abbrev S64x1x1 : Shape := ⟨3, ![64, 1, 1]⟩
abbrev S1 : Shape := ⟨1, ![1]⟩
abbrev S1x1x1 : Shape := ⟨3, ![1, 1, 1]⟩
abbrev S1x32x32 : Shape := ⟨3, ![1, 32, 32]⟩
abbrev S32 : Shape := ⟨1, ![32]⟩
abbrev S1x32 : Shape := ⟨2, ![1, 32]⟩
abbrev S64x32x3 : Shape := ⟨3, ![64, 32, 3]⟩

abbrev nBuf : Space → Nat
  | .hbm => 197
  | .vmem => 0
  | .smem => 0
  | _ => 0

abbrev hbmTy0_0 (i : Nat) : BufTy := match i % 128 with
  | 0 => ⟨S64x512x32, .f32⟩
  | 1 => ⟨S64x512, .i1⟩
  | 2 => ⟨S32x32, .f32⟩
  | 3 => ⟨S512x64x32, .f32⟩
  | 4 => ⟨S512x64x1x32, .f32⟩
  | 5 => ⟨S1x1x32x32, .f32⟩
  | 6 => ⟨S512x64x32x32, .f32⟩
  | 7 => ⟨S512x64x32x32, .f32⟩
  | 8 => ⟨S512x64x32x32, .f32⟩
  | 9 => ⟨S512x64, .i1⟩
  | 10 => ⟨S1x64x32x32, .f32⟩
  | 11 => ⟨S64x32x32, .f32⟩
  | 12 => ⟨S64x1x32, .f32⟩
  | 13 => ⟨S64x32, .f32⟩
  | 14 => ⟨S511x64x32x32, .f32⟩
  | 15 => ⟨S511x64, .i1⟩
  | 16 => ⟨S_, .f32⟩
  | 17 => ⟨S511x64x32, .f32⟩
  | 18 => ⟨S_, .i32⟩
  | 19 => ⟨S511x64x32, .i32⟩
  | 20 => ⟨S_, .i32⟩
  | 21 => ⟨S511x64x32x32, .f32⟩
  | 22 => ⟨S511x64, .i1⟩
  | 23 => ⟨S_, .i32⟩
  | 24 => ⟨S64x32, .f32⟩
  | 25 => ⟨S511x64x32, .f32⟩
  | 26 => ⟨S511x64x32, .i32⟩
  | 27 => ⟨S_, .i32⟩
  | 28 => ⟨S_, .i1⟩
  | 29 => ⟨S_, .i32⟩
  | 30 => ⟨S_, .i32⟩
  | 31 => ⟨S_, .i32⟩
  | 32 => ⟨S1x64x32x32, .f32⟩
  | 33 => ⟨S64x32x32, .f32⟩
  | 34 => ⟨S_, .i32⟩
  | 35 => ⟨S1x64, .i1⟩
  | 36 => ⟨S64, .i1⟩
  | 37 => ⟨S64x32x1, .f32⟩
  | 38 => ⟨S64x32x32, .f32⟩
  | 39 => ⟨S64x32x32, .f32⟩
  | 40 => ⟨S_, .f32⟩
  | 41 => ⟨S64x32, .f32⟩
  | 42 => ⟨S64x32x32, .i32⟩
  | 43 => ⟨S_, .f32⟩
  | 44 => ⟨S_, .i32⟩
  | 45 => ⟨S64x32, .f32⟩
  | 46 => ⟨S64x32, .i32⟩
  | 47 => ⟨S64x1, .i1⟩
  | 48 => ⟨S_, .i32⟩
  | 49 => ⟨S_, .i32⟩
  | 50 => ⟨S64x32, .i1⟩
  | 51 => ⟨S64x32, .i32⟩
  | 52 => ⟨S64x32, .i32⟩
  | 53 => ⟨S1x64x32, .f32⟩
  | 54 => ⟨S_, .i32⟩
  | 55 => ⟨S_, .i32⟩
  | 56 => ⟨S511x64x32, .f32⟩
  | 57 => ⟨S1x64x32, .i32⟩
  | 58 => ⟨S_, .i32⟩
  | 59 => ⟨S_, .i32⟩
  | 60 => ⟨S511x64x32, .i32⟩
  | 61 => ⟨S_, .i32⟩
  | 62 => ⟨S_, .i32⟩
  | 63 => ⟨S1x64x32, .f32⟩
  | 64 => ⟨S512x64x32, .f32⟩
  | 65 => ⟨S64x512x32, .f32⟩
  | 66 => ⟨S64x512, .i32⟩
  | 67 => ⟨S_, .i32⟩
  | 68 => ⟨S64, .i32⟩
  | 69 => ⟨S_, .i32⟩
  | 70 => ⟨S64, .i32⟩
  | 71 => ⟨S64, .i32⟩
  | 72 => ⟨S64x1x1, .i32⟩
  | 73 => ⟨S_, .i32⟩
  | 74 => ⟨S64x1x1, .i32⟩
  | 75 => ⟨S64x1x1, .i1⟩
  | 76 => ⟨S_, .i32⟩
  | 77 => ⟨S64x1x1, .i32⟩
  | 78 => ⟨S64x1x1, .i32⟩
  | 79 => ⟨S64x1x1, .i32⟩
  | 80 => ⟨S1, .i32⟩
  | 81 => ⟨S_, .i32⟩
  | 82 => ⟨S64x1x1, .i32⟩
  | 83 => ⟨S64x1x1, .i1⟩
  | 84 => ⟨S1x1x1, .i32⟩
  | 85 => ⟨S64x1x1, .i32⟩
  | 86 => ⟨S64x1x1, .i1⟩
  | 87 => ⟨S64x1x1, .i1⟩
  | 88 => ⟨S_, .i1⟩
  | 89 => ⟨S64x1, .i1⟩
  | 90 => ⟨S64x1x32, .f32⟩
  | 91 => ⟨S64x1x32, .i1⟩
  | 92 => ⟨S_, .f32⟩
  | 93 => ⟨S64x1x32, .f32⟩
  | 94 => ⟨S64x1x32, .f32⟩
  | 95 => ⟨S64x32, .f32⟩
  | 96 => ⟨S64x32x1, .f32⟩
  | 97 => ⟨S1x32x32, .f32⟩
  | 98 => ⟨S64x32x32, .f32⟩
  | 99 => ⟨S64x32x32, .f32⟩
  | 100 => ⟨S64x32x32, .f32⟩
  | 101 => ⟨S64x32x32, .i32⟩
  | 102 => ⟨S_, .f32⟩
  | 103 => ⟨S_, .i32⟩
  | 104 => ⟨S64x32, .f32⟩
  | 105 => ⟨S64x32, .i32⟩
  | 106 => ⟨S64x1, .i32⟩
  | 107 => ⟨S64, .i32⟩
  | 108 => ⟨S_, .i32⟩
  | 109 => ⟨S1x64x32, .i32⟩
  | 110 => ⟨S512x64x32, .i32⟩
  | 111 => ⟨S64x512x32, .i32⟩
  | 112 => ⟨S64, .i32⟩
  | 113 => ⟨S64x1, .i32⟩
  | 114 => ⟨S32, .i32⟩
  | 115 => ⟨S1x32, .i32⟩
  | 116 => ⟨S64x1, .i32⟩
  | 117 => ⟨S64x1, .i32⟩
  | 118 => ⟨S_, .i32⟩
  | 119 => ⟨S64x1, .i32⟩
  | 120 => ⟨S64x1, .i1⟩
  | 121 => ⟨S_, .i32⟩
  | 122 => ⟨S64x1, .i32⟩
  | 123 => ⟨S64x1, .i32⟩
  | 124 => ⟨S64x1, .i32⟩
  | 125 => ⟨S_, .i32⟩
  | 126 => ⟨S64x1, .i32⟩
  | 127 => ⟨S64x1, .i1⟩
  | _ => ⟨S64x512x32, .f32⟩

abbrev hbmTy0_1 (i : Nat) : BufTy := match i % 128 with
  | 0 => ⟨S_, .i32⟩
  | 1 => ⟨S64x1, .i32⟩
  | 2 => ⟨S64x1, .i32⟩
  | 3 => ⟨S64x1, .i32⟩
  | 4 => ⟨S_, .i32⟩
  | 5 => ⟨S1x32, .i32⟩
  | 6 => ⟨S1x32, .i1⟩
  | 7 => ⟨S_, .i32⟩
  | 8 => ⟨S1x32, .i32⟩
  | 9 => ⟨S1x32, .i32⟩
  | 10 => ⟨S1x32, .i32⟩
  | 11 => ⟨S64x32, .i32⟩
  | 12 => ⟨S64x32, .i32⟩
  | 13 => ⟨S64x32, .i32⟩
  | 14 => ⟨S64x32x1, .i32⟩
  | 15 => ⟨S64x32x1, .i32⟩
  | 16 => ⟨S64x32x1, .i32⟩
  | 17 => ⟨S64x32x3, .i32⟩
  | 18 => ⟨S64x32, .i32⟩
  | 19 => ⟨S64x512x32, .i32⟩
  | 20 => ⟨S512x64x32, .i32⟩
  | 21 => ⟨S511x64x32, .i32⟩
  | 22 => ⟨S511x64x32, .i32⟩
  | 23 => ⟨S_, .i32⟩
  | 24 => ⟨S511x64, .i32⟩
  | 25 => ⟨S_, .i32⟩
  | 26 => ⟨S511x64x32, .i32⟩
  | 27 => ⟨S_, .i32⟩
  | 28 => ⟨S64, .i32⟩
  | 29 => ⟨S511x64, .i32⟩
  | 30 => ⟨S_, .i32⟩
  | 31 => ⟨S_, .i1⟩
  | 32 => ⟨S_, .i32⟩
  | 33 => ⟨S_, .i32⟩
  | 34 => ⟨S1x64x32, .i32⟩
  | 35 => ⟨S64x32, .i32⟩
  | 36 => ⟨S64x1, .i32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S64x1x1, .i32⟩
  | 45 => ⟨S1, .i32⟩
  | 46 => ⟨S_, .i32⟩
  | 47 => ⟨S64x1x1, .i32⟩
  | 48 => ⟨S64x1x1, .i1⟩
  | 49 => ⟨S1x1x1, .i32⟩
  | 50 => ⟨S64x1x1, .i32⟩
  | 51 => ⟨S64x1x1, .i1⟩
  | 52 => ⟨S64x1x1, .i1⟩
  | 53 => ⟨S_, .i1⟩
  | 54 => ⟨S64x1, .i1⟩
  | 55 => ⟨S64x1, .i32⟩
  | 56 => ⟨S_, .i32⟩
  | 57 => ⟨S64x1, .i32⟩
  | 58 => ⟨S64x1, .i32⟩
  | 59 => ⟨S64, .i32⟩
  | 60 => ⟨S1x64, .i32⟩
  | 61 => ⟨S_, .i32⟩
  | 62 => ⟨S511x64, .i32⟩
  | 63 => ⟨S_, .i32⟩
  | 64 => ⟨S_, .i32⟩
  | 65 => ⟨S511x64, .i32⟩
  | 66 => ⟨S1x64, .i32⟩
  | 67 => ⟨S512x64, .i32⟩
  | 68 => ⟨S64x512, .i32⟩
  | _ => ⟨S64x512x32, .f32⟩

abbrev hbmTy (i : Nat) : BufTy := match i / 128 with
  | 0 => hbmTy0_0 i
  | 1 => hbmTy0_1 i
  | _ => ⟨S64x512x32, .f32⟩

abbrev bufTy : (tb : Table) → Fin (tcTables nBuf tb) → BufTy
  | .hbm, ⟨i, _⟩ => hbmTy i
  | _, _ => ⟨S64x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v15_5 : Ref sig .tc := ⟨.hbm, 26, rfl⟩
abbrev main_while0c_c_17 : Ref sig .tc := ⟨.hbm, 27, rfl⟩
abbrev main_while0c_v76 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_v0 : Ref sig .tc := ⟨.hbm, 32, rfl⟩
abbrev main_while0b_v76 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v77 : Ref sig .tc := ⟨.hbm, 36, rfl⟩
abbrev main_while0b_v78 : Ref sig .tc := ⟨.hbm, 37, rfl⟩
abbrev main_while0b_v79 : Ref sig .tc := ⟨.hbm, 38, rfl⟩
abbrev main_while0b_v80 : Ref sig .tc := ⟨.hbm, 39, rfl⟩
abbrev main_while0b_cst_17 : Ref sig .tc := ⟨.hbm, 40, rfl⟩
abbrev main_while0b_v81 : Ref sig .tc := ⟨.hbm, 41, rfl⟩
abbrev main_while0b_call2_v0 : Ref sig .tc := ⟨.hbm, 42, rfl⟩
abbrev main_while0b_call2_cst : Ref sig .tc := ⟨.hbm, 43, rfl⟩
abbrev main_while0b_call2_c : Ref sig .tc := ⟨.hbm, 44, rfl⟩
abbrev main_while0b_call2_v1_0 : Ref sig .tc := ⟨.hbm, 45, rfl⟩
abbrev main_while0b_v82 : Ref sig .tc := ⟨.hbm, 46, rfl⟩
abbrev main_while0b_v83 : Ref sig .tc := ⟨.hbm, 47, rfl⟩
abbrev main_while0b_c_18 : Ref sig .tc := ⟨.hbm, 48, rfl⟩
abbrev main_while0b_call3_v0 : Ref sig .tc := ⟨.hbm, 49, rfl⟩
abbrev main_while0b_call3_v1 : Ref sig .tc := ⟨.hbm, 50, rfl⟩
abbrev main_while0b_call3_v2 : Ref sig .tc := ⟨.hbm, 51, rfl⟩
abbrev main_while0b_v84 : Ref sig .tc := ⟨.hbm, 52, rfl⟩
abbrev main_while0b_call4_v0 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_v85 : Ref sig .tc := ⟨.hbm, 56, rfl⟩
abbrev main_while0b_call5_v0 : Ref sig .tc := ⟨.hbm, 57, rfl⟩
abbrev main_while0b_call5_c : Ref sig .tc := ⟨.hbm, 58, rfl⟩
abbrev main_while0b_call5_c_0 : Ref sig .tc := ⟨.hbm, 59, rfl⟩
abbrev main_while0b_v86 : Ref sig .tc := ⟨.hbm, 60, rfl⟩
abbrev main_while0b_c_19 : Ref sig .tc := ⟨.hbm, 61, rfl⟩
abbrev main_while0b_v87 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_c_1 : Ref sig .tc := ⟨.hbm, 67, rfl⟩
abbrev main_v20 : Ref sig .tc := ⟨.hbm, 68, rfl⟩
abbrev main_c_2 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_call6_c : Ref sig .tc := ⟨.hbm, 73, rfl⟩
abbrev main_call6_v0 : Ref sig .tc := ⟨.hbm, 74, rfl⟩
abbrev main_call6_v1 : Ref sig .tc := ⟨.hbm, 75, rfl⟩
abbrev main_call6_c_0 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_c_1 : Ref sig .tc := ⟨.hbm, 80, rfl⟩
abbrev main_call6_c_2 : Ref sig .tc := ⟨.hbm, 81, rfl⟩
abbrev main_call6_v5 : Ref sig .tc := ⟨.hbm, 82, rfl⟩
abbrev main_call6_v6 : Ref sig .tc := ⟨.hbm, 83, rfl⟩
abbrev main_call6_v7 : Ref sig .tc := ⟨.hbm, 84, rfl⟩
abbrev main_call6_v8 : Ref sig .tc := ⟨.hbm, 85, rfl⟩
abbrev main_call6_v9 : Ref sig .tc := ⟨.hbm, 86, rfl⟩
abbrev main_call6_v10 : Ref sig .tc := ⟨.hbm, 87, rfl⟩
abbrev main_call6_c_3 : Ref sig .tc := ⟨.hbm, 88, rfl⟩
abbrev main_call6_v11 : Ref sig .tc := ⟨.hbm, 89, rfl⟩
abbrev main_call6_v12 : Ref sig .tc := ⟨.hbm, 90, rfl⟩
abbrev main_call6_v13 : Ref sig .tc := ⟨.hbm, 91, rfl⟩
abbrev main_call6_cst : Ref sig .tc := ⟨.hbm, 92, rfl⟩
abbrev main_call6_v14 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_call7_v0 : Ref sig .tc := ⟨.hbm, 101, rfl⟩
abbrev main_call7_cst : Ref sig .tc := ⟨.hbm, 102, rfl⟩
abbrev main_call7_c : Ref sig .tc := ⟨.hbm, 103, rfl⟩
abbrev main_call7_v1_0 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_c_3 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_c_4 : Ref sig .tc := ⟨.hbm, 118, rfl⟩
abbrev main_v43 : Ref sig .tc := ⟨.hbm, 119, rfl⟩
abbrev main_v44 : Ref sig .tc := ⟨.hbm, 120, rfl⟩
abbrev main_c_5 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_c_6 : Ref sig .tc := ⟨.hbm, 125, rfl⟩
abbrev main_v48 : Ref sig .tc := ⟨.hbm, 126, rfl⟩
abbrev main_v49 : Ref sig .tc := ⟨.hbm, 127, rfl⟩
abbrev main_c_7 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_c_8 : Ref sig .tc := ⟨.hbm, 132, rfl⟩
abbrev main_v53 : Ref sig .tc := ⟨.hbm, 133, rfl⟩
abbrev main_v54 : Ref sig .tc := ⟨.hbm, 134, rfl⟩
abbrev main_c_9 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_c_10 : Ref sig .tc := ⟨.hbm, 151, rfl⟩
abbrev main_v70 : Ref sig .tc := ⟨.hbm, 152, rfl⟩
abbrev main_c_11 : Ref sig .tc := ⟨.hbm, 153, rfl⟩
abbrev main_v71_0 : Ref sig .tc := ⟨.hbm, 154, rfl⟩
abbrev main_v71_1 : Ref sig .tc := ⟨.hbm, 155, rfl⟩
abbrev main_v71_2 : Ref sig .tc := ⟨.hbm, 156, rfl⟩
abbrev main_v71_3 : Ref sig .tc := ⟨.hbm, 157, rfl⟩
abbrev main_while1c_c_15 : Ref sig .tc := ⟨.hbm, 158, rfl⟩
abbrev main_while1c_v76 : Ref sig .tc := ⟨.hbm, 159, rfl⟩
abbrev main_while1b_call8_c : Ref sig .tc := ⟨.hbm, 160, rfl⟩
abbrev main_while1b_call8_c_0 : Ref sig .tc := ⟨.hbm, 161, rfl⟩
abbrev main_while1b_call8_v0 : Ref sig .tc := ⟨.hbm, 162, rfl⟩
abbrev main_while1b_v76 : Ref sig .tc := ⟨.hbm, 163, rfl⟩
abbrev main_while1b_v77 : Ref sig .tc := ⟨.hbm, 164, rfl⟩
abbrev main_while1b_call9_c : Ref sig .tc := ⟨.hbm, 165, rfl⟩
abbrev main_while1b_call9_v0 : Ref sig .tc := ⟨.hbm, 166, rfl⟩
abbrev main_while1b_call9_v1 : Ref sig .tc := ⟨.hbm, 167, rfl⟩
abbrev main_while1b_call9_c_0 : Ref sig .tc := ⟨.hbm, 168, rfl⟩
abbrev main_while1b_call9_v2 : Ref sig .tc := ⟨.hbm, 169, rfl⟩
abbrev main_while1b_call9_v3 : Ref sig .tc := ⟨.hbm, 170, rfl⟩
abbrev main_while1b_call9_v4 : Ref sig .tc := ⟨.hbm, 171, rfl⟩
abbrev main_while1b_call9_v5 : Ref sig .tc := ⟨.hbm, 172, rfl⟩
abbrev main_while1b_call9_c_1 : Ref sig .tc := ⟨.hbm, 173, rfl⟩
abbrev main_while1b_call9_c_2 : Ref sig .tc := ⟨.hbm, 174, rfl⟩
abbrev main_while1b_call9_v6 : Ref sig .tc := ⟨.hbm, 175, rfl⟩
abbrev main_while1b_call9_v7 : Ref sig .tc := ⟨.hbm, 176, rfl⟩
abbrev main_while1b_call9_v8 : Ref sig .tc := ⟨.hbm, 177, rfl⟩
abbrev main_while1b_call9_v9 : Ref sig .tc := ⟨.hbm, 178, rfl⟩
abbrev main_while1b_call9_v10 : Ref sig .tc := ⟨.hbm, 179, rfl⟩
abbrev main_while1b_call9_v11 : Ref sig .tc := ⟨.hbm, 180, rfl⟩
abbrev main_while1b_call9_c_3 : Ref sig .tc := ⟨.hbm, 181, rfl⟩
abbrev main_while1b_call9_v12 : Ref sig .tc := ⟨.hbm, 182, rfl⟩
abbrev main_while1b_call9_v13 : Ref sig .tc := ⟨.hbm, 183, rfl⟩
abbrev main_while1b_call9_c_4 : Ref sig .tc := ⟨.hbm, 184, rfl⟩
abbrev main_while1b_call9_v14 : Ref sig .tc := ⟨.hbm, 185, rfl⟩
abbrev main_while1b_v78 : Ref sig .tc := ⟨.hbm, 186, rfl⟩
abbrev main_while1b_v79 : Ref sig .tc := ⟨.hbm, 187, rfl⟩
abbrev main_while1b_call10_v0 : Ref sig .tc := ⟨.hbm, 188, rfl⟩
abbrev main_while1b_call10_c : Ref sig .tc := ⟨.hbm, 189, rfl⟩
abbrev main_while1b_v80 : Ref sig .tc := ⟨.hbm, 190, rfl⟩
abbrev main_while1b_c_15 : Ref sig .tc := ⟨.hbm, 191, rfl⟩
abbrev main_while1b_v81 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩

abbrev nD : Nat := 1
abbrev τ : Topo := Topo.v7x

variable {F : FTy → Type} [FloatOps F]

abbrev main_while0_count : Scf.Loop 32 := ⟨0#32, 511#32, 1#32⟩

abbrev main_while1_count : Scf.Loop 32 := ⟨0#32, 511#32, 1#32⟩
-- ==== Proof.KBody.lean ====
/-
  The kernel's body run by hand. What it computes is named over the three operands' blocks: the forward values `fwd`
  (the first loop's carried value), the back pointers `bp` the forward trips store into the scratch, the tags `tag` the
  second loop carries, and the result `out`, whose row `s` is the tag after `511 - s` backward trips. The two loops go by
  the counted-loop rule, at the invariants that the carried value is the named one and that the rows already stored hold
  the named rows.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pointwise

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No label of the program's own is called. -/
abbrev 𝒱₀ : Variants := Variants.none

/-! ## What the body computes -/

/-- Row `k` of a stack of 512 matrices. -/
def row {e : EltTy} (x : Vec F S512x32x64 e) (k : ℕ) : Vec F S1x32x64 e :=
  fun j => x (ix3 (Fin.ofNat 512 k) (j 1) (j 2))

/-- The forward values after `k` steps: the first row plus the start tag's transitions, then one maximum per step. -/
def fwd (x0 : Vec F S512x32x64 .f32) (x1 x2 : Vec F S32x32 .f32) : ℕ → FVec F S32x64 .f32
  | 0 => k0_pay1 x2 (row x0 0)
  | k + 1 => k0_pay3 x1 (fwd x0 x1 x2 k) (row x0 (k + 1))

/-- The back pointers stored by step `k`: into row `k + 1` of the scratch. -/
def bp (x0 : Vec F S512x32x64 .f32) (x1 x2 : Vec F S32x32 .f32) (k : ℕ) : IVec S1x32x64 32 :=
  k0_pay4 x1 (fwd x0 x1 x2 k) (row x0 (k + 1))

/-- The tags after `k` backward steps: the best last tag, then one look-up of the back pointers per step. -/
def tag (x0 : Vec F S512x32x64 .f32) (x1 x2 : Vec F S32x32 .f32) : ℕ → IVec S1x64 32
  | 0 => k0_pay5 x1 (fwd x0 x1 x2 511)
  | k + 1 => k0_pay6 (F := F) (tag x0 x1 x2 k) (bp x0 x1 x2 (510 - k))

/-- The result: row `s` holds the tags after `511 - s` backward steps. -/
def out (x0 : Vec F S512x32x64 .f32) (x1 x2 : Vec F S32x32 .f32) : Vec F S512x64 .i32 :=
  fun i => tag x0 x1 x2 (511 - (i 0).val) (ix2 0 (i 1))

/-! ## The loops' trips, and the rows they touch -/

/-- The forward loop makes 511 trips. -/
theorem trips1 : k0_t1_loop.trips = 511 := by decide
/-- The backward loop makes 511 trips. -/
theorem trips2 : k0_t2_loop.trips = 511 := by decide

/-- The one-row rectangle the first loop reads and writes. -/
abbrev rect1 (k : Fin k0_t1_loop.trips) : Rect S512x32x64 :=
  Rect.unit (s := S512x32x64) (k0_off1 k) S1x32x64.size (k0_off1_inb k)
/-- The one-row rectangle of the scratch the second loop reads, -/
abbrev rect2 (k : Fin k0_t2_loop.trips) : Rect S512x32x64 :=
  Rect.unit (s := S512x32x64) (k0_off2 k) S1x32x64.size (k0_off2_inb k)
/-- and that of the result it writes. -/
abbrev rect3 (k : Fin k0_t2_loop.trips) : Rect S512x64 :=
  Rect.unit (s := S512x64) (k0_off3 k) S1x64.size (k0_off3_inb k)
/-- The result's last row. -/
abbrev rectL : Rect S512x64 := Rect.unit (s := S512x64) ![511, 0] S1x64.size inb_S512x64_S1x64_511_0

/-- An index of a one-row vector is its last two coordinates at row 0. -/
theorem eq_ix3_zero (j : S1x32x64.Idx) : j = ix3 0 (j 1) (j 2) := by
  funext a; match a with
  | ⟨0, _⟩ => exact Fin.ext (by have : (j 0).val < 1 := (j 0).isLt; show (j 0).val = 0; omega)
  | ⟨1, _⟩ => rfl
  | ⟨2, _⟩ => rfl

/-- The same of a one-row matrix. -/
theorem eq_ix2_zero (j : S1x64.Idx) : j = ix2 0 (j 1) := by
  funext a; match a with
  | ⟨0, _⟩ => exact Fin.ext (by have : (j 0).val < 1 := (j 0).isLt; show (j 0).val = 0; omega)
  | ⟨1, _⟩ => rfl

/-- Where a one-row unit rectangle at row `k` sits in the stack. -/
theorem emb_row {off : Fin 3 → ℕ} (inb : ∀ a, off a + S1x32x64.size a ≤ S512x32x64.size a) (k : ℕ) (hk : k < 512)
    (h : off = ![k, 0, 0]) (j : S1x32x64.Idx) :
    (Rect.unit (s := S512x32x64) off S1x32x64.size inb).emb j = ix3 (Fin.ofNat 512 k) (j 1) (j 2) := by
  subst h
  have h0 : (j 0).val < 1 := (j 0).isLt
  funext a; match a with
  | ⟨0, _⟩ => exact Fin.ext (by show k + 1 * (j 0).val = k % 512; rw [Nat.mod_eq_of_lt hk]; omega)
  | ⟨1, _⟩ => exact Fin.ext (by show 0 + 1 * (j 1).val = (j 1).val; omega)
  | ⟨2, _⟩ => exact Fin.ext (by show 0 + 1 * (j 2).val = (j 2).val; omega)

omit [FloatOps F] in
/-- A one-row read of the features' buffer is the row. -/
theorem read_feats {off : Fin 3 → ℕ} (inb : ∀ a, off a + S1x32x64.size a ≤ S512x32x64.size a) (k : ℕ) (hk : k < 512)
    (h : off = ![k, 0, 0]) (f : (cc0_stg0_0 : Ref sig .tc).ty.Contents (Elt F)) :
    (Memref.whole cc0_stg0_0 : Memref sig .tc .vmem S512x32x64 .f32).view.readAt (Elt F)
      (Rect.unit (s := S512x32x64) off S1x32x64.size inb).toLoadRect f = row (F := F) (e := .f32) f k := by
  funext j
  exact congrArg f (emb_row inb k hk h j)

omit [FloatOps F] in
/-- A one-row read of the scratch is the row. -/
theorem read_scratch {off : Fin 3 → ℕ} (inb : ∀ a, off a + S1x32x64.size a ≤ S512x32x64.size a) (k : ℕ) (hk : k < 512)
    (h : off = ![k, 0, 0]) (f : (cc0_scratch0 : Ref sig .tc).ty.Contents (Elt F)) :
    (Memref.whole cc0_scratch0 : Memref sig .tc .vmem S512x32x64 .i32).view.readAt (Elt F)
      (Rect.unit (s := S512x32x64) off S1x32x64.size inb).toLoadRect f = row (F := F) (e := .i32) f k := by
  funext j
  exact congrArg f (emb_row inb k hk h j)

omit [FloatOps F] in
/-- The whole read of the transitions' buffer is its contents, -/
theorem read_trans1 (f : (cc0_stg1_0 : Ref sig .tc).ty.Contents (Elt F)) :
    (Memref.whole cc0_stg1_0 : Memref sig .tc .vmem S32x32 .f32).view.readAt (Elt F)
      (Rect.unit (s := S32x32) ![0, 0] S32x32.size inb_S32x32_S32x32_0_0).toLoadRect f = f :=
  Memref.readAt_unit_zero (Elt F) cc0_stg1_0 (funext fun a => by fin_cases a <;> rfl) inb_S32x32_S32x32_0_0 f

omit [FloatOps F] in
/-- and so is that of the transposed transitions'. -/
theorem read_trans2 (f : (cc0_stg2_0 : Ref sig .tc).ty.Contents (Elt F)) :
    (Memref.whole cc0_stg2_0 : Memref sig .tc .vmem S32x32 .f32).view.readAt (Elt F)
      (Rect.unit (s := S32x32) ![0, 0] S32x32.size inb_S32x32_S32x32_0_0).toLoadRect f = f :=
  Memref.readAt_unit_zero (Elt F) cc0_stg2_0 (funext fun a => by fin_cases a <;> rfl) inb_S32x32_S32x32_0_0 f

/-- The first `k` trips' rows of a scratch `g`: row `t + 1` holds the back pointers of step `t`. -/
def Stored (x0 : Vec F S512x32x64 .f32) (x1 x2 : Vec F S32x32 .f32) (k : ℕ) (g : Vec F S512x32x64 .i32) : Prop :=
  ∀ t < k, row (F := F) (e := .i32) g (t + 1) = bp x0 x1 x2 t

/-- A one-row write at row `o` of the scratch: the payload there, the old contents elsewhere. -/
theorem write_scratch {off : Fin 3 → ℕ} (inb : ∀ a, off a + S1x32x64.size a ≤ S512x32x64.size a) (o : ℕ) (ho : off = ![o, 0, 0])
    (f : (cc0_scratch0 : Ref sig .tc).ty.Contents (Elt F)) (w : IVec S1x32x64 32) (s : Fin 512) (j : Fin 32) (b : Fin 64) :
    ((Memref.whole cc0_scratch0).access (Rect.unit (s := S512x32x64) off S1x32x64.size inb) : View sig .tc _ _ _).write (Elt F) f w Finset.univ
        (ix3 s j b)
      = if s.val = o then w (ix3 0 j b) else f (ix3 s j b) := by
  subst ho
  have hw := View.write_whole_slice_unit (Val := Elt F) cc0_scratch0 ![o, 0, 0] S1x32x64.size inb f w
  refine (congrFun hw _).trans ?_
  unfold updateSlice
  split
  · next h =>
    have h1 : o ≤ s.val := (h 0).1
    have h2 : s.val < o + 1 := (h 0).2
    rw [if_pos (by omega)]
    refine congrArg _ (funext fun a => Fin.ext ?_)
    match a with
    | ⟨0, _⟩ => show s.val - o = 0; omega
    | ⟨1, _⟩ => rfl
    | ⟨2, _⟩ => rfl
  · next h =>
    rw [if_neg]
    intro e
    refine h fun a => ?_
    match a with
    | ⟨0, _⟩ => exact ⟨by show o ≤ s.val; omega, by show s.val < o + 1; omega⟩
    | ⟨1, _⟩ => exact ⟨Nat.zero_le _, by show j.val < 0 + 32; have := j.isLt; omega⟩
    | ⟨2, _⟩ => exact ⟨Nat.zero_le _, by show b.val < 0 + 64; have := b.isLt; omega⟩

/-- A store of one more row keeps the rows already there. -/
theorem stored_succ (x0 : Vec F S512x32x64 .f32) (x1 x2 : Vec F S32x32 .f32) (k : Fin k0_t1_loop.trips)
    (g : (cc0_scratch0 : Ref sig .tc).ty.Contents (Elt F)) (hg : Stored (F := F) x0 x1 x2 k g) :
    Stored x0 x1 x2 (k.val + 1) (((Memref.whole cc0_scratch0).access (rect1 k) : View sig .tc _ _ _).write (Elt F) g
      (bp x0 x1 x2 k) Finset.univ) := by
  have hk : k.val < 511 := lt_of_lt_of_eq k.isLt trips1
  intro t ht
  funext j
  have ht' : (t + 1) % 512 = t + 1 := Nat.mod_eq_of_lt (by omega)
  refine (write_scratch (k0_off1_inb k) (k.val + 1) (k0_off1_eq k) g _ (Fin.ofNat 512 (t + 1)) (j 1) (j 2)).trans ?_
  split
  · next e =>
    have e : (t + 1) % 512 = k.val + 1 := e
    obtain rfl : t = k.val := by omega
    exact congrArg _ (eq_ix3_zero j).symm
  · next e =>
    have e : ¬ (t + 1) % 512 = k.val + 1 := e
    exact congrFun (hg t (by omega)) j

/-- The rows of a result `h` written after `k` backward steps: row `511 - t` holds the tags after `t`, for `t ≤ k`. -/
def Written (x0 : Vec F S512x32x64 .f32) (x1 x2 : Vec F S32x32 .f32) (k : ℕ) (h : Vec F S512x64 .i32) : Prop :=
  ∀ t ≤ k, ∀ (s : Fin 512), s.val = 511 - t → ∀ b : Fin 64, h (ix2 s b) = tag x0 x1 x2 t (ix2 0 b)

/-- A one-row write at row `o` of the result's buffer: the payload there, the old contents elsewhere. -/
theorem write_row {off : Fin 2 → ℕ} (inb : ∀ a, off a + S1x64.size a ≤ S512x64.size a) (o : ℕ) (ho : off = ![o, 0])
    (f : (cc0_stg3_0 : Ref sig .tc).ty.Contents (Elt F)) (w : IVec S1x64 32) (s : Fin 512) (b : Fin 64) :
    ((Memref.whole cc0_stg3_0).access (Rect.unit (s := S512x64) off S1x64.size inb) : View sig .tc _ _ _).write (Elt F) f w Finset.univ (ix2 s b)
      = if s.val = o then w (ix2 0 b) else f (ix2 s b) := by
  subst ho
  have hw := View.write_whole_slice_unit (Val := Elt F) cc0_stg3_0 ![o, 0] S1x64.size inb f w
  refine (congrFun hw _).trans ?_
  unfold updateSlice
  split
  · next h =>
    have h1 : o ≤ s.val := (h 0).1
    have h2 : s.val < o + 1 := (h 0).2
    rw [if_pos (by omega)]
    refine congrArg _ (funext fun a => Fin.ext ?_)
    match a with
    | ⟨0, _⟩ => show s.val - o = 0; omega
    | ⟨1, _⟩ => rfl
  · next h =>
    rw [if_neg]
    intro e
    refine h fun a => ?_
    match a with
    | ⟨0, _⟩ => exact ⟨by show o ≤ s.val; omega, by show s.val < o + 1; omega⟩
    | ⟨1, _⟩ => exact ⟨Nat.zero_le _, by show b.val < 0 + 64; have := b.isLt; omega⟩

/-! ## The two loops -/

/-- After `k` forward trips: the carried value is `fwd k`, the features are held, and the scratch's first rows are stored. -/
def inv1 (c : Dev nD) (x0 : (cc0_stg0_0 : Ref sig .tc).ty.Contents (Elt F)) (x1 x2 : Vec F S32x32 .f32) (k : ℕ) (p : FVec F S32x64 .f32) : sProp 𝕄 :=
  iprop(⌜p = fwd x0 x1 x2 k⌝ ∗ (((c : Thread nD τ).loc cc0_stg0_0) ↦{fullShare} x0)
    ∗ ∃ g : Buf (Elt F) ((c : Thread nD τ).loc cc0_scratch0), ⌜Stored (F := F) x0 x1 x2 k g⌝ ∗ (((c : Thread nD τ).loc cc0_scratch0) ↦{fullShare} g))

/-- One forward trip from the invariant: the row's load, the scratch's dead load and store. -/
theorem trip1 (c : Dev nD) (x0 : (cc0_stg0_0 : Ref sig .tc).ty.Contents (Elt F)) (x1 x2 : Vec F S32x32 .f32)
    (k : Fin k0_t1_loop.trips) (p : FVec F S32x64 .f32) :
    inv1 c x0 x1 x2 k p ⊢ wp frame (wpE (defs₀ (F := F)) 𝒱₀ (c : Thread nD τ) none) Set.univ
      (k0_t1_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) x1 k p) (inv1 c x0 x1 x2 (k.val + 1)) := by
  have hk : k.val < 511 := lt_of_lt_of_eq k.isLt trips1
  unfold inv1 k0_t1_body
  simp only [Prog.lift, Prog.bind_op, Prog.bind_ret, Prog.pure_eq_ret]
  iintro ⟨%hp, H0, %g, %hg, Hg⟩
  subst hp
  iapply (wp_load 𝒱₀ (c : Thread nD τ) none Set.univ (m := Memref.whole cc0_stg0_0) (Finset.subset_univ _)) $$ H0; iintro H0
  rw [read_feats (k0_off1_inb k) (k.val + 1) (by omega) (k0_off1_eq k) x0]
  iapply (wp_load 𝒱₀ (c : Thread nD τ) none Set.univ (m := Memref.whole cc0_scratch0) (Finset.subset_univ _)) $$ Hg; iintro Hg
  iapply (wp_store 𝒱₀ (c : Thread nD τ) none Set.univ (m := Memref.whole cc0_scratch0) (r := rect1 k) (Mk := Finset.univ) (Finset.subset_univ _)) $$ Hg; iintro Hg
  rw [wp_ret]; imodintro
  isplitr
  · ipureintro; rfl
  isplitl [H0]; · iexact H0
  iexists _; isplitr; swap; · iexact Hg
  ipureintro; exact stored_succ x0 x1 x2 k g hg

/-- After `k` backward trips: the carried value is `tag k`, the scratch is held with every row stored, and the result's
    last `k + 1` rows are written. -/
def inv2 (c : Dev nD) (x0 : Vec F S512x32x64 .f32) (x1 x2 : Vec F S32x32 .f32) (g : Buf (Elt F) ((c : Thread nD τ).loc cc0_scratch0)) (k : ℕ) (p : IVec S1x64 32) : sProp 𝕄 :=
  iprop(⌜p = tag x0 x1 x2 k⌝ ∗ (((c : Thread nD τ).loc cc0_scratch0) ↦{fullShare} g)
    ∗ ∃ h : Buf (Elt F) ((c : Thread nD τ).loc cc0_stg3_0), ⌜Written (F := F) x0 x1 x2 k h⌝ ∗ (((c : Thread nD τ).loc cc0_stg3_0) ↦{fullShare} h))

/-- One backward trip from the invariant: the scratch row's load, the result's dead load and store. -/
theorem trip2 (c : Dev nD) (x0 : Vec F S512x32x64 .f32) (x1 x2 : Vec F S32x32 .f32) (g : Buf (Elt F) ((c : Thread nD τ).loc cc0_scratch0))
    (hg : Stored (F := F) x0 x1 x2 511 g) (k : Fin k0_t2_loop.trips) (p : IVec S1x64 32) :
    inv2 c x0 x1 x2 g k p ⊢ wp frame (wpE (defs₀ (F := F)) 𝒱₀ (c : Thread nD τ) none) Set.univ
      (k0_t2_body (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) k p) (inv2 c x0 x1 x2 g (k.val + 1)) := by
  have hk : k.val < 511 := lt_of_lt_of_eq k.isLt trips2
  unfold inv2 k0_t2_body
  simp only [Prog.lift, Prog.bind_op, Prog.bind_ret, Prog.pure_eq_ret]
  iintro ⟨%hp, Hg, %h, %hh, H3⟩
  subst hp
  iapply (wp_load 𝒱₀ (c : Thread nD τ) none Set.univ (m := Memref.whole cc0_scratch0) (Finset.subset_univ _)) $$ Hg; iintro Hg
  rw [read_scratch (k0_off2_inb k) (511 - k.val) (by omega) (k0_off2_eq k) g,
    show 511 - k.val = (510 - k.val) + 1 by omega, hg (510 - k.val) (by omega)]
  iapply (wp_load 𝒱₀ (c : Thread nD τ) none Set.univ (m := Memref.whole cc0_stg3_0) (Finset.subset_univ _)) $$ H3; iintro H3
  iapply (wp_store 𝒱₀ (c : Thread nD τ) none Set.univ (m := Memref.whole cc0_stg3_0) (r := rect3 k) (Mk := Finset.univ) (Finset.subset_univ _)) $$ H3; iintro H3
  rw [wp_ret]; imodintro
  isplitr
  · ipureintro; rfl
  isplitl [Hg]; · iexact Hg
  iexists _; isplitr; swap; · iexact H3
  ipureintro
  intro t ht s hs b
  refine (write_row (k0_off3_inb k) (510 - k.val) (k0_off3_eq k) h _ s b).trans ?_
  split
  · next e => rw [show t = k.val + 1 by omega]; rfl
  · next e => exact hh t (by omega) s hs b

/-! ## The body -/

/-- The whole body: the operands' buffers held at `x0`, `x1`, `x2`, the result's and the scratch at anything; it ends
    with the operands as they were, the result at `out`, the scratch at something. -/
theorem body_sound (c : Dev nD) (x0 : (cc0_stg0_0 : Ref sig .tc).ty.Contents (Elt F)) (x1 : (cc0_stg1_0 : Ref sig .tc).ty.Contents (Elt F))
    (x2 : (cc0_stg2_0 : Ref sig .tc).ty.Contents (Elt F)) (K : PUnit → sProp 𝕄) :
    iprop((((c : Thread nD τ).loc cc0_stg0_0) ↦{fullShare} x0) ∗ (((c : Thread nD τ).loc cc0_stg1_0) ↦{fullShare} x1)
        ∗ (((c : Thread nD τ).loc cc0_stg2_0) ↦{fullShare} x2)
        ∗ (∃ h : Buf (Elt F) ((c : Thread nD τ).loc cc0_stg3_0), ((c : Thread nD τ).loc cc0_stg3_0) ↦{fullShare} h)
        ∗ (∃ g : Buf (Elt F) ((c : Thread nD τ).loc cc0_scratch0), ((c : Thread nD τ).loc cc0_scratch0) ↦{fullShare} g)
        ∗ (iprop((((c : Thread nD τ).loc cc0_stg0_0) ↦{fullShare} x0) ∗ (((c : Thread nD τ).loc cc0_stg1_0) ↦{fullShare} x1)
            ∗ (((c : Thread nD τ).loc cc0_stg2_0) ↦{fullShare} x2)
            ∗ (((c : Thread nD τ).loc cc0_stg3_0) ↦{fullShare} (out (F := F) x0 x1 x2 : Buf (Elt F) ((c : Thread nD τ).loc cc0_stg3_0)))
            ∗ (∃ g : Buf (Elt F) ((c : Thread nD τ).loc cc0_scratch0), ((c : Thread nD τ).loc cc0_scratch0) ↦{fullShare} g)) -∗ K ⟨⟩))
      ⊢ wp frame (wpE (defs₀ (F := F)) 𝒱₀ (c : Thread nD τ) none) Set.univ
        (cc0__crf_body_skel (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _)) K := by
  unfold cc0__crf_body_skel
  simp only [Prog.lift, Prog.bind_op, Prog.bind_ret, Prog.pure_eq_ret]
  iintro ⟨H0, H1, H2, ⟨%h, H3⟩, ⟨%g, Hg⟩, HK⟩
  iapply (wp_load 𝒱₀ (c : Thread nD τ) none Set.univ (m := Memref.whole cc0_stg1_0) (Finset.subset_univ _)) $$ H1; iintro H1
  rw [read_trans1 x1]
  iapply (wp_load 𝒱₀ (c : Thread nD τ) none Set.univ (m := Memref.whole cc0_stg2_0) (Finset.subset_univ _)) $$ H2; iintro H2
  rw [read_trans2 x2]
  iapply (wp_load 𝒱₀ (c : Thread nD τ) none Set.univ (m := Memref.whole cc0_stg0_0) (Finset.subset_univ _)) $$ H0; iintro H0
  rw [read_feats inb_S512x32x64_S1x32x64_0_0_0 0 (by omega) rfl x0]
  iapply (Scf.wp_for_bind frame (wpE (defs₀ (F := F)) 𝒱₀ (c : Thread nD τ) none) Set.univ k0_t1_loop.lb k0_t1_loop.ub k0_t1_loop.st
    k0_t1_ok _ _ (inv1 c x0 x1 x2) (trip1 c x0 x1 x2)) $$ [H0 Hg]
  · unfold inv1
    isplitr; · ipureintro; rfl
    isplitl [H0]; · iexact H0
    iexists g; isplitr; · ipureintro; exact fun t ht => absurd ht (Nat.not_lt_zero t)
    iexact Hg
  iintro %p Hinv
  unfold inv1; icases Hinv with ⟨%hp, H0, %g1, %hg1, Hg⟩
  rw [show Scf.trips k0_t1_loop.lb k0_t1_loop.ub k0_t1_loop.st = 511 from trips1] at hp hg1
  subst hp
  iapply (wp_load 𝒱₀ (c : Thread nD τ) none Set.univ (m := Memref.whole cc0_stg3_0) (Finset.subset_univ _)) $$ H3; iintro H3
  iapply (wp_store 𝒱₀ (c : Thread nD τ) none Set.univ (m := Memref.whole cc0_stg3_0) (r := rectL) (Mk := Finset.univ) (Finset.subset_univ _)) $$ H3; iintro H3
  iapply (Scf.wp_for_bind frame (wpE (defs₀ (F := F)) 𝒱₀ (c : Thread nD τ) none) Set.univ k0_t2_loop.lb k0_t2_loop.ub k0_t2_loop.st
    k0_t2_ok _ _ (inv2 c x0 x1 x2 g1) (trip2 c x0 x1 x2 g1 hg1)) $$ [H3 Hg]
  · unfold inv2
    isplitr; · ipureintro; rfl
    isplitl [Hg]; · iexact Hg
    iexists _; isplitr; swap; · iexact H3
    ipureintro
    intro t ht s hs b
    refine (write_row inb_S512x64_S1x64_511_0 511 rfl h _ s b).trans ?_
    rw [if_pos (by omega), show t = 0 by omega]; rfl
  iintro %q Hinv
  unfold inv2; icases Hinv with ⟨%hq, Hg, %h1, %hh1, H3⟩
  rw [show Scf.trips k0_t2_loop.lb k0_t2_loop.ub k0_t2_loop.st = 511 from trips2] at hh1
  obtain rfl : h1 = out (F := F) x0 x1 x2 := by
    funext i
    have hi : (i 0).val < 512 := (i 0).isLt
    refine (congrArg h1 (eq_ix2 i)).trans ?_
    exact hh1 (511 - (i 0).val) (by omega) (i 0) (by omega) (i 1)
  rw [wp_ret]; imodintro
  iapply HK
  isplitl [H0]; · iexact H0
  isplitl [H1]; · iexact H1
  isplitl [H2]; · iexact H2
  isplitl [H3]; · iexact H3
  iexists _; iexact Hg

end Cert.KernelIdeal.Own
-- ==== Proof.KRun.lean ====
/-
  The kernel's launch: the pipeline's proof data (each operand's block as fetched, the result's block `out` of them, the
  scratch at anything between points), the body obligation off `body_sound`, the run of @main around its one region, the
  unchanged arguments with every counter at zero, and what @main's result holds: the transpose of `out` of the
  transposed features, the transitions and the transposed transitions.
-/
module

public import proofs.«01_k».proof.Proof.KBody

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each operand's buffer at its block and the
    result's at `out` of the blocks; the scratch and the generator register at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (F := F) (iblk m c 0 t) (iblk m c 1 t) (iblk m c 2 t)
  Φ _ := Pipeline.ΦA spec0 c
  q _ := fullShare
  owed _ := 0

/-- Each window's array is what the region finds in it. -/
theorem A_eq (c : Dev nD) (w : Fin cfg0.W) : (dats m 0 c).A w = V m c (Pipeline.arrRef spec0 w) := by dsimp only [dats]
/-- The features' block is left as it was. -/
theorem after0_0 (c : Dev nD) (t : Fin cfg0.N) : (dats m 0 c).after 0 t = iblk m c 0 t := by dsimp only [dats]
/-- The transitions' block is left as it was. -/
theorem after0_1 (c : Dev nD) (t : Fin cfg0.N) : (dats m 0 c).after 1 t = iblk m c 1 t := by dsimp only [dats]
/-- The transposed transitions' block is left as it was. -/
theorem after0_2 (c : Dev nD) (t : Fin cfg0.N) : (dats m 0 c).after 2 t = iblk m c 2 t := by dsimp only [dats]
/-- The result's block is left at the body's result. -/
theorem after0_3 (c : Dev nD) (t : Fin cfg0.N) :
    (dats m 0 c).after 3 t = out (F := F) (iblk m c 0 t) (iblk m c 1 t) (iblk m c 2 t) := by dsimp only [dats]

/-- Each operand's buffer holds its block when the body runs. -/
theorem before0_0 (c : Dev nD) (t : Fin cfg0.N) (d) : (dats m 0 c).before 0 t d = iblk m c 0 t :=
  before0_0_of m (dats m 0 c) (A_eq m c 0) (after0_0 m c) t d
/-- The body finds the transitions' block in the second window. -/
theorem before0_1 (c : Dev nD) (t : Fin cfg0.N) (d) : (dats m 0 c).before 1 t d = iblk m c 1 t :=
  before0_1_of m (dats m 0 c) (A_eq m c 1) (after0_1 m c) t d
/-- The body finds the transposed transitions' block in the third. -/
theorem before0_2 (c : Dev nD) (t : Fin cfg0.N) (d) : (dats m 0 c).before 2 t d = iblk m c 2 t :=
  before0_2_of m (dats m 0 c) (A_eq m c 2) (after0_2 m c) t d

omit [FloatOps F] in
/-- Owning a whole buffer at `X` is its points-to at `X`. -/
theorem owns_whole (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body is called with, -/
def bodyPre (c : Dev nD) : sProp 𝕄 :=
  iprop((dats m 0 c).Φ (t0_0 : Fin cfg0.N).castSucc ∗ (dats m 0 c).owesAt () (t0_0 : Fin cfg0.N).castSucc
    ∗ (∃ d, owns (c : Thread nD τ) (Memref.whole cc0_stg0_0) fullShare ((dats m 0 c).before 0 t0_0 d))
    ∗ (∃ d, owns (c : Thread nD τ) (Memref.whole cc0_stg1_0) fullShare ((dats m 0 c).before 1 t0_0 d))
    ∗ (∃ d, owns (c : Thread nD τ) (Memref.whole cc0_stg2_0) fullShare ((dats m 0 c).before 2 t0_0 d))
    ∗ (∃ d, owns (c : Thread nD τ) (Memref.whole cc0_stg3_0) fullShare ((dats m 0 c).before 3 t0_0 d)))

/-- and what it returns. -/
def bodyPost (c : Dev nD) : sProp 𝕄 :=
  iprop((dats m 0 c).Φ (t0_0 : Fin cfg0.N).succ ∗ (dats m 0 c).owesAt () (t0_0 : Fin cfg0.N).succ
    ∗ owns (c : Thread nD τ) (Memref.whole cc0_stg0_0) fullShare ((dats m 0 c).after 0 t0_0)
    ∗ owns (c : Thread nD τ) (Memref.whole cc0_stg1_0) fullShare ((dats m 0 c).after 1 t0_0)
    ∗ owns (c : Thread nD τ) (Memref.whole cc0_stg2_0) fullShare ((dats m 0 c).after 2 t0_0)
    ∗ owns (c : Thread nD τ) (Memref.whole cc0_stg3_0) fullShare ((dats m 0 c).after 3 t0_0))

/-- The body from its precondition. -/
theorem sound_body (c : Dev nD) :
    bodyPre m c ⊢ wp frame (wpE (defs₀ (F := F)) 𝒱₀ (c : Thread nD τ) none) Set.univ
      (cc0__crf_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _)) (fun _ => bodyPost m c) := by
  simp only [cc0__crf_body_eq_skeleton]
  unfold bodyPre bodyPost
  simp only [before0_0, before0_1, before0_2, after0_0, after0_1, after0_2, after0_3]
  rw [show (dats m 0 c).Φ (t0_0 : Fin cfg0.N).succ = Pipeline.ΦA spec0 c from rfl,
    show (dats m 0 c).Φ (t0_0 : Fin cfg0.N).castSucc = Pipeline.ΦA spec0 c from rfl,
    show (dats m 0 c).owesAt () (t0_0 : Fin cfg0.N).succ = (dats m 0 c).owesAt () (t0_0 : Fin cfg0.N).castSucc from rfl]
  unfold Pipeline.ΦA
  rw [scopedRest0_eq]
  simp only [owns_whole]
  iintro ⟨⟨⟨%g, Hg⟩, Hr⟩, Ho, ⟨%d0, %f0, %h0, H0⟩, ⟨%d1, %f1, %h1, H1⟩, ⟨%d2, %f2, %h2, H2⟩, ⟨%d3, %f3, -, H3⟩⟩
  subst h0 h1 h2
  iapply (body_sound c _ _ _)
  isplitl [H0]; · iexact H0
  isplitl [H1]; · iexact H1
  isplitl [H2]; · iexact H2
  isplitl [H3]; · iexists _; iexact H3
  isplitl [Hg]; · iexists _; iexact Hg
  iintro ⟨H0, H1, H2, H3, %g', Hg⟩
  isplitl [Hg Hr]
  · isplitl [Hg]
    · iexists _; iexact Hg
    iexact Hr
  isplitl [Ho]; · iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; swap; · iexact H3
  ipureintro; rfl

/-- The pipeline's row of the label table is the kernel on the point's staging memrefs. -/
theorem body_obligation (c : Dev nD) : BodyObligation (dats (F := F) m 0 c) (defs₀ (F := F)) 𝒱₀ () Set.univ := fun t => by
  obtain rfl := fin_N0 t
  rw [bigSep_W0, bigSep_W0]
  exact triple_restated (sound_body m c) rfl .rfl fun _ => .rfl

set_option backward.isDefEq.respectTransparency.types false in
/-- Every fair execution of @main ends with every array as the proof data say and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The three arguments end as launched, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) fun _ _ => rfl) (run_main m ρ)

end Cert.KernelIdeal.Own
-- ==== Proof.RefOps.lean ====
/-
  The reference program's operations, written as lists: the pieces of @main around its two loops and of the two loops'
  bodies, what each piece writes, and that @main and the two bodies are the chains of their pieces.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Own

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The operations of one call of `dynamic_index_in_dim`, in order, over the call's operands and buffers. -/
abbrev dynamic_index_in_dimOps (arg0 : StableHlo.TRef sig ⟨S511x64x32x32, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x64x32x32 x (fun k => (i k (Shape.Idx.first h_S_)).toInt) sliceFits_S511x64x32x32_S1x64x32x32),
    StableHlo.TRef.reshape φ.v0 φ.v1 (rfl : (.f32 : EltTy) = .f32) shapeCasts_S1x64x32x32_S64x32x32 ]

/-- The operations of one call of `dynamic_index_in_dim_0`, in order, over the call's operands and buffers. -/
abbrev dynamic_index_in_dim_0Ops (arg0 : StableHlo.TRef sig ⟨S511x64, .i1⟩) (arg1 : StableHlo.TRef sig ⟨S_, .i32⟩) (φ : fn_dynamic_index_in_dim_0.Bufs) : List (HloOp τ sig (Elt F)) :=
  [ StableHlo.TRef.nullary φ.c (constantI S_ 32 0#32),
    StableHlo.TRef.unaryIndexed arg0 ![arg1, φ.c] φ.v0 (fun x i => Host.dynamicSlice S1x64 x (fun k => (i k (Shape.Idx.first h_S_)).toInt) sliceFits_S511x64_S1x64),
    StableHlo.TRef.reshape φ.v0 φ.v1 (rfl : (.i1 : EltTy) = .i1) shapeCasts_S1x64_S64 ]

/-- The operations of one call of `argmax`, in order, over the call's operands and buffers. -/
abbrev argmaxOps (arg0 : StableHlo.TRef sig ⟨S64x32x32, .f32⟩) (φ : fn_argmax.Bufs) : List (HloOp τ sig (Elt F)) :=
  [ StableHlo.TRef.nullary φ.v0 (iotaInDim S64x32x32 32 1),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S64x32x32_S64x32_d1 h_S_ j).1),
    StableHlo.TRef.quaternary arg0 φ.v0 φ.cst φ.c φ.v1_1 (fun x y u v j => (Host.argReduce reducer_argmax_f32_i32 x y u v reducesTo_S64x32x32_S64x32_d1 h_S_ j).2) ]

/-- The operations of one call of `where`, in order, over the call's operands and buffers. -/
abbrev whereOps (arg0 : StableHlo.TRef sig ⟨S64x1, .i1⟩) (arg1 : StableHlo.TRef sig ⟨S64x32, .i32⟩) (arg2 : StableHlo.TRef sig ⟨S_, .i32⟩) (φ : fn_where.Bufs) : List (HloOp τ sig (Elt F)) :=
  [ StableHlo.TRef.unary arg2 φ.v0 id,
    StableHlo.TRef.unary arg0 φ.v1 (broadcastInDim S64x32 ![0, 1] bcast_S64x1_S64x32_0_1),
    StableHlo.TRef.unary φ.v0 φ.v2 (broadcastInDim S64x32 ![] bcast_S_S64x32),
    StableHlo.TRef.ternary φ.v1 arg1 φ.v2 φ.v3 select ]

/-- The operations of one call of `dynamic_update_index_in_dim`, in order, over the call's operands and buffers. -/
abbrev dynamic_update_index_in_dimOps (arg0 : StableHlo.TRef sig ⟨S511x64x32, .f32⟩) (arg1 : StableHlo.TRef sig ⟨S64x32, .f32⟩) (arg2 : StableHlo.TRef sig ⟨S_, .i32⟩) (φ : fn_dynamic_update_index_in_dim.Bufs) : List (HloOp τ sig (Elt F)) :=
  [ StableHlo.TRef.unary arg1 φ.v0 (broadcastInDim S1x64x32 ![1, 2] bcast_S64x32_S1x64x32_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S511x64x32_S1x64x32) ]

/-- The operations of one call of `dynamic_update_index_in_dim_1`, in order, over the call's operands and buffers. -/
abbrev dynamic_update_index_in_dim_1Ops (arg0 : StableHlo.TRef sig ⟨S511x64x32, .i32⟩) (arg1 : StableHlo.TRef sig ⟨S64x32, .i32⟩) (arg2 : StableHlo.TRef sig ⟨S_, .i32⟩) (φ : fn_dynamic_update_index_in_dim_1.Bufs) : List (HloOp τ sig (Elt F)) :=
  [ StableHlo.TRef.unary arg1 φ.v0 (broadcastInDim S1x64x32 ![1, 2] bcast_S64x32_S1x64x32_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S511x64x32_S1x64x32) ]

/-- The operations of one call of `take_along_axis`, in order, over the call's operands and buffers. -/
abbrev take_along_axisOps (arg0 : StableHlo.TRef sig ⟨S64x512x32, .f32⟩) (arg1 : StableHlo.TRef sig ⟨S64x1x1, .i32⟩) (φ : fn_take_along_axis.Bufs) : List (HloOp τ sig (Elt F)) :=
  [ StableHlo.TRef.nullary φ.c (constantI S_ 32 0#32),
    StableHlo.TRef.unary φ.c φ.v0 (broadcastInDim S64x1x1 ![] bcast_S_S64x1x1),
    StableHlo.TRef.binary arg1 φ.v0 φ.v1 (cmpi .slt),
    StableHlo.TRef.nullary φ.c_0 (constantI S_ 32 512#32),
    StableHlo.TRef.unary φ.c_0 φ.v2 (broadcastInDim S64x1x1 ![] bcast_S_S64x1x1),
    StableHlo.TRef.binary arg1 φ.v2 φ.v3 addi,
    StableHlo.TRef.ternary φ.v1 φ.v3 arg1 φ.v4 select,
    StableHlo.TRef.nullary φ.c_1 (constantI S1 32 511#32),
    StableHlo.TRef.nullary φ.c_2 (constantI S_ 32 0#32),
    StableHlo.TRef.unary φ.c_2 φ.v5 (broadcastInDim S64x1x1 ![] bcast_S_S64x1x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S64x1x1 ![0, 1, 2] bcast_S1x1x1_S64x1x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S64x1x1_S64x1_d2 h_S_),
    StableHlo.TRef.binary arg0 φ.v4 φ.v12 (fun x i => Host.gather gather_S64x512x32_S64x1x1_S64x1x32_2_1_0_0_1_2_1132 x i),
    StableHlo.TRef.unary φ.v11 φ.v13 (broadcastInDim S64x1x32 ![0, 1] bcast_S64x1_S64x1x32_0_1),
    StableHlo.TRef.nullary φ.cst (constant S_ .f32 0x7FC00000#32),
    StableHlo.TRef.unary φ.cst φ.v14 (broadcastInDim S64x1x32 ![] bcast_S_S64x1x32),
    StableHlo.TRef.ternary φ.v13 φ.v12 φ.v14 φ.v15 select ]

/-- The operations of one call of `dynamic_index_in_dim_2`, in order, over the call's operands and buffers. -/
abbrev dynamic_index_in_dim_2Ops (arg0 : StableHlo.TRef sig ⟨S511x64x32, .i32⟩) (arg1 : StableHlo.TRef sig ⟨S_, .i32⟩) (φ : fn_dynamic_index_in_dim_2.Bufs) : List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x64x32 x (fun k => (i k (Shape.Idx.first h_S_)).toInt) sliceFits_S511x64x32_S1x64x32),
    StableHlo.TRef.reshape φ.v0 φ.v1 (rfl : (.i32 : EltTy) = .i32) shapeCasts_S1x64x32_S64x32 ]

/-- The operations of one call of `take_along_axis_3`, in order, over the call's operands and buffers. -/
abbrev take_along_axis_3Ops (arg0 : StableHlo.TRef sig ⟨S64x32, .i32⟩) (arg1 : StableHlo.TRef sig ⟨S64x1, .i32⟩) (φ : fn_take_along_axis_3.Bufs) : List (HloOp τ sig (Elt F)) :=
  [ StableHlo.TRef.nullary φ.c (constantI S_ 32 0#32),
    StableHlo.TRef.unary φ.c φ.v0 (broadcastInDim S64x1 ![] bcast_S_S64x1),
    StableHlo.TRef.binary arg1 φ.v0 φ.v1 (cmpi .slt),
    StableHlo.TRef.nullary φ.c_0 (constantI S_ 32 32#32),
    StableHlo.TRef.unary φ.c_0 φ.v2 (broadcastInDim S64x1 ![] bcast_S_S64x1),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S64x1_S64x1x1,
    StableHlo.TRef.nullary φ.c_1 (constantI S1 32 31#32),
    StableHlo.TRef.nullary φ.c_2 (constantI S_ 32 0#32),
    StableHlo.TRef.unary φ.c_2 φ.v6 (broadcastInDim S64x1x1 ![] bcast_S_S64x1x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S64x1x1 ![0, 1, 2] bcast_S1x1x1_S64x1x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S64x1x1_S64x1_d2 h_S_),
    StableHlo.TRef.binary arg0 φ.v5 φ.v13 (fun x i => Host.gather gather_S64x32_S64x1x1_S64x1_n_1_0_0_1_2_11 x i),
    StableHlo.TRef.nullary φ.c_4 (constantI S_ 32 2147483648#32),
    StableHlo.TRef.unary φ.c_4 φ.v14 (broadcastInDim S64x1 ![] bcast_S_S64x1),
    StableHlo.TRef.ternary φ.v12 φ.v13 φ.v14 φ.v15 select ]

/-- The operations of one call of `dynamic_update_index_in_dim_4`, in order, over the call's operands and buffers. -/
abbrev dynamic_update_index_in_dim_4Ops (arg0 : StableHlo.TRef sig ⟨S511x64, .i32⟩) (arg1 : StableHlo.TRef sig ⟨S64, .i32⟩) (arg2 : StableHlo.TRef sig ⟨S_, .i32⟩) (φ : fn_dynamic_update_index_in_dim_4.Bufs) : List (HloOp τ sig (Elt F)) :=
  [ StableHlo.TRef.unary arg1 φ.v0 (broadcastInDim S1x64 ![1] bcast_S64_S1x64_1),
    StableHlo.TRef.nullary φ.c (constantI S_ 32 0#32),
    StableHlo.TRef.binaryIndexed arg0 φ.v0 ![arg2, φ.c] φ.v1 (fun x u i => Host.dynamicUpdateSlice x u (fun k => (i k (Shape.Idx.first h_S_)).toInt) updateFits_S511x64_S1x64) ]

/-- 24 operations of @main, first part, in order. -/
abbrev pA0 : List (HloOp τ sig (Elt F)) :=
  [ StableHlo.unary main_arg0 main_v0 ((transpose S512x64x32 [1, 0, 2] · transposes_S64x512x32_S512x64x32_1_0_2) : (⟨S64x512x32, .f32⟩ : BufTy).Contents (Elt F) → (⟨S512x64x32, .f32⟩ : BufTy).Contents (Elt F)),
    StableHlo.unary main_v0 main_v1 (broadcastInDim S512x64x1x32 ![0, 1, 3] bcast_S512x64x32_S512x64x1x32_0_1_3 : (⟨S512x64x32, .f32⟩ : BufTy).Contents (Elt F) → (⟨S512x64x1x32, .f32⟩ : BufTy).Contents (Elt F)),
    StableHlo.unary main_arg2 main_v2 (broadcastInDim S1x1x32x32 ![2, 3] bcast_S32x32_S1x1x32x32_2_3 : (⟨S32x32, .f32⟩ : BufTy).Contents (Elt F) → (⟨S1x1x32x32, .f32⟩ : BufTy).Contents (Elt F)),
    StableHlo.unary main_v1 main_v3 (broadcastInDim S512x64x32x32 ![0, 1, 2, 3] bcast_S512x64x1x32_S512x64x32x32_0_1_2_3 : (⟨S512x64x1x32, .f32⟩ : BufTy).Contents (Elt F) → (⟨S512x64x32x32, .f32⟩ : BufTy).Contents (Elt F)),
    StableHlo.unary main_v2 main_v4 (broadcastInDim S512x64x32x32 ![0, 1, 2, 3] bcast_S1x1x32x32_S512x64x32x32_0_1_2_3 : (⟨S1x1x32x32, .f32⟩ : BufTy).Contents (Elt F) → (⟨S512x64x32x32, .f32⟩ : BufTy).Contents (Elt F)),
    StableHlo.binary main_v3 main_v4 main_v5 (addf : (⟨S512x64x32x32, .f32⟩ : BufTy).Contents (Elt F) → (⟨S512x64x32x32, .f32⟩ : BufTy).Contents (Elt F) → (⟨S512x64x32x32, .f32⟩ : BufTy).Contents (Elt F)),
    StableHlo.unary main_arg1 main_v6 ((transpose S512x64 [1, 0] · transposes_S64x512_S512x64_1_0) : (⟨S64x512, .i1⟩ : BufTy).Contents (Elt F) → (⟨S512x64, .i1⟩ : BufTy).Contents (Elt F)),
    StableHlo.unary main_v5 main_v7 ((extractStridedSlice S1x64x32x32 ![0, 0, 0, 0] · slices_S512x64x32x32_S1x64x32x32_0_0_0_0) : (⟨S512x64x32x32, .f32⟩ : BufTy).Contents (Elt F) → (⟨S1x64x32x32, .f32⟩ : BufTy).Contents (Elt F)),
    StableHlo.reshape main_v7 main_v8 (rfl : (.f32 : EltTy) = .f32) shapeCasts_S1x64x32x32_S64x32x32,
    StableHlo.unary main_v8 main_v9 ((extractStridedSlice S64x1x32 ![0, 30, 0] · slices_S64x32x32_S64x1x32_0_30_0) : (⟨S64x32x32, .f32⟩ : BufTy).Contents (Elt F) → (⟨S64x1x32, .f32⟩ : BufTy).Contents (Elt F)),
    StableHlo.reshape main_v9 main_v10 (rfl : (.f32 : EltTy) = .f32) shapeCasts_S64x1x32_S64x32,
    StableHlo.unary main_v5 main_v11 ((extractStridedSlice S511x64x32x32 ![1, 0, 0, 0] · slices_S512x64x32x32_S511x64x32x32_1_0_0_0) : (⟨S512x64x32x32, .f32⟩ : BufTy).Contents (Elt F) → (⟨S511x64x32x32, .f32⟩ : BufTy).Contents (Elt F)),
    StableHlo.unary main_v6 main_v12 ((extractStridedSlice S511x64 ![1, 0] · slices_S512x64_S511x64_1_0) : (⟨S512x64, .i1⟩ : BufTy).Contents (Elt F) → (⟨S511x64, .i1⟩ : BufTy).Contents (Elt F)),
    StableHlo.nullary main_cst (constant S_ .f32 0x00000000#32),
    StableHlo.unary main_cst main_v13 (broadcastInDim S511x64x32 ![] bcast_S_S511x64x32 : (⟨S_, .f32⟩ : BufTy).Contents (Elt F) → (⟨S511x64x32, .f32⟩ : BufTy).Contents (Elt F)),
    StableHlo.nullary main_c (constantI S_ 32 0#32),
    StableHlo.unary main_c main_v14 (broadcastInDim S511x64x32 ![] bcast_S_S511x64x32 : (⟨S_, .i32⟩ : BufTy).Contents (Elt F) → (⟨S511x64x32, .i32⟩ : BufTy).Contents (Elt F)),
    StableHlo.nullary main_c_0 (constantI S_ 32 0#32),
    StableHlo.unary main_v11 main_v15_0 id,
    StableHlo.unary main_v12 main_v15_1 id,
    StableHlo.unary main_c_0 main_v15_2 id,
    StableHlo.unary main_v10 main_v15_3 id,
    StableHlo.unary main_v13 main_v15_4 id,
    StableHlo.unary main_v14 main_v15_5 id ]
/-- Each touches TensorCore references only. -/
theorem pA0_sub : (pA0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- None allocates a buffer. -/
theorem pA0_fresh : (pA0 : List (HloOp τ sig (Elt F))).Forall fun op => op.fresh = ∅ := StableHlo.forall_fresh_of_map rfl
/-- The references it writes. -/
abbrev pA0_W : List (Ref sig .tc) := [main_v0, main_v1, main_v2, main_v3, main_v4, main_v5, main_v6, main_v7, main_v8, main_v9, main_v10, main_v11, main_v12, main_cst, main_v13, main_c, main_v14, main_c_0, main_v15_0, main_v15_1, main_v15_2, main_v15_3, main_v15_4, main_v15_5]
/-- The piece `pA0` writes only the references listed for it. -/
theorem pA0_writes : (pA0 : List (HloOp τ sig (Elt F))).Forall fun op => op.writes ⊆ (pA0_W.map (Proc.devRef (τ := τ) .tc)).toFinset :=
  StableHlo.forall_writes_sub_of_map rfl

/-- 10 operations of @main, first part, in order. -/
abbrev pA1 : List (HloOp τ sig (Elt F)) :=
  [ StableHlo.unary main_v10 main_v16 (broadcastInDim S1x64x32 ![1, 2] bcast_S64x32_S1x64x32_1_2 : (⟨S64x32, .f32⟩ : BufTy).Contents (Elt F) → (⟨S1x64x32, .f32⟩ : BufTy).Contents (Elt F)),
    StableHlo.binary main_v16 main_v15_4 main_v17 ((fun a b => concatenate S512x64x32 0 [⟨S1x64x32, a⟩, ⟨S511x64x32, b⟩] concatenates_S1x64x32_S511x64x32_S512x64x32_d0) : (⟨S1x64x32, .f32⟩ : BufTy).Contents (Elt F) → (⟨S511x64x32, .f32⟩ : BufTy).Contents (Elt F) → (⟨S512x64x32, .f32⟩ : BufTy).Contents (Elt F)),
    StableHlo.unary main_v17 main_v18 ((transpose S64x512x32 [1, 0, 2] · transposes_S512x64x32_S64x512x32_1_0_2) : (⟨S512x64x32, .f32⟩ : BufTy).Contents (Elt F) → (⟨S64x512x32, .f32⟩ : BufTy).Contents (Elt F)),
    StableHlo.unary main_arg1 main_v19 ((extui 32 · natLt_1_32) : (⟨S64x512, .i1⟩ : BufTy).Contents (Elt F) → (⟨S64x512, .i32⟩ : BufTy).Contents (Elt F)),
    StableHlo.nullary main_c_1 (constantI S_ 32 0#32),
    StableHlo.binary main_v19 main_c_1 main_v20 ((fun x v => Host.reduce IntOp.addi x v reducesTo_S64x512_S64_d1 h_S_) : (⟨S64x512, .i32⟩ : BufTy).Contents (Elt F) → (⟨S_, .i32⟩ : BufTy).Contents (Elt F) → (⟨S64, .i32⟩ : BufTy).Contents (Elt F)),
    StableHlo.nullary main_c_2 (constantI S_ 32 1#32),
    StableHlo.unary main_c_2 main_v21 (broadcastInDim S64 ![] bcast_S_S64 : (⟨S_, .i32⟩ : BufTy).Contents (Elt F) → (⟨S64, .i32⟩ : BufTy).Contents (Elt F)),
    StableHlo.binary main_v20 main_v21 main_v22 (subi : (⟨S64, .i32⟩ : BufTy).Contents (Elt F) → (⟨S64, .i32⟩ : BufTy).Contents (Elt F) → (⟨S64, .i32⟩ : BufTy).Contents (Elt F)),
    StableHlo.unary main_v22 main_v23 (broadcastInDim S64x1x1 ![0] bcast_S64_S64x1x1_0 : (⟨S64, .i32⟩ : BufTy).Contents (Elt F) → (⟨S64x1x1, .i32⟩ : BufTy).Contents (Elt F)) ]
/-- Each touches TensorCore references only. -/
theorem pA1_sub : (pA1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub ..⟩
/-- None allocates a buffer. -/
theorem pA1_fresh : (pA1 : List (HloOp τ sig (Elt F))).Forall fun op => op.fresh = ∅ := StableHlo.forall_fresh_of_map rfl
/-- The references it writes. -/
abbrev pA1_W : List (Ref sig .tc) := [main_v16, main_v17, main_v18, main_v19, main_c_1, main_v20, main_c_2, main_v21, main_v22, main_v23]
/-- The piece `pA1` writes only the references listed for it. -/
theorem pA1_writes : (pA1 : List (HloOp τ sig (Elt F))).Forall fun op => op.writes ⊆ (pA1_W.map (Proc.devRef (τ := τ) .tc)).toFinset :=
  StableHlo.forall_writes_sub_of_map rfl

/-- The call of `take_along_axis` in @main, first part. -/
abbrev pA2 : List (HloOp τ sig (Elt F)) := take_along_axisOps (.of main_v18) (.of main_v23) main_call6
/-- Each touches TensorCore references only. -/
theorem pA2_sub : (pA2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- None allocates a buffer. -/
theorem pA2_fresh : (pA2 : List (HloOp τ sig (Elt F))).Forall fun op => op.fresh = ∅ := StableHlo.forall_fresh_of_map rfl
/-- The references it writes. -/
abbrev pA2_W : List (Ref sig .tc) := [main_call6.c.ref, main_call6.v0.ref, main_call6.v1.ref, main_call6.c_0.ref, main_call6.v2.ref, main_call6.v3.ref, main_call6.v4.ref, main_call6.c_1.ref, main_call6.c_2.ref, main_call6.v5.ref, main_call6.v6.ref, main_call6.v7.ref, main_call6.v8.ref, main_call6.v9.ref, main_call6.v10.ref, main_call6.c_3.ref, main_call6.v11.ref, main_call6.v12.ref, main_call6.v13.ref, main_call6.cst.ref, main_call6.v14.ref, main_call6.v15.ref]
/-- The piece `pA2` writes only the references listed for it. -/
theorem pA2_writes : (pA2 : List (HloOp τ sig (Elt F))).Forall fun op => op.writes ⊆ (pA2_W.map (Proc.devRef (τ := τ) .tc)).toFinset :=
  StableHlo.forall_writes_sub_of_map rfl

/-- 6 operations of @main, first part, in order. -/
abbrev pA3 : List (HloOp τ sig (Elt F)) :=
  [ StableHlo.reshape main_v24 main_v25 (rfl : (.f32 : EltTy) = .f32) shapeCasts_S64x1x32_S64x32,
    StableHlo.unary main_v25 main_v26 (broadcastInDim S64x32x1 ![0, 1] bcast_S64x32_S64x32x1_0_1 : (⟨S64x32, .f32⟩ : BufTy).Contents (Elt F) → (⟨S64x32x1, .f32⟩ : BufTy).Contents (Elt F)),
    StableHlo.unary main_arg2 main_v27 (broadcastInDim S1x32x32 ![1, 2] bcast_S32x32_S1x32x32_1_2 : (⟨S32x32, .f32⟩ : BufTy).Contents (Elt F) → (⟨S1x32x32, .f32⟩ : BufTy).Contents (Elt F)),
    StableHlo.unary main_v26 main_v28 (broadcastInDim S64x32x32 ![0, 1, 2] bcast_S64x32x1_S64x32x32_0_1_2 : (⟨S64x32x1, .f32⟩ : BufTy).Contents (Elt F) → (⟨S64x32x32, .f32⟩ : BufTy).Contents (Elt F)),
    StableHlo.unary main_v27 main_v29 (broadcastInDim S64x32x32 ![0, 1, 2] bcast_S1x32x32_S64x32x32_0_1_2 : (⟨S1x32x32, .f32⟩ : BufTy).Contents (Elt F) → (⟨S64x32x32, .f32⟩ : BufTy).Contents (Elt F)),
    StableHlo.binary main_v28 main_v29 main_v30 (addf : (⟨S64x32x32, .f32⟩ : BufTy).Contents (Elt F) → (⟨S64x32x32, .f32⟩ : BufTy).Contents (Elt F) → (⟨S64x32x32, .f32⟩ : BufTy).Contents (Elt F)) ]
/-- Each touches TensorCore references only. -/
theorem pA3_sub : (pA3 : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.binary_bufs_sub ..⟩
/-- None allocates a buffer. -/
theorem pA3_fresh : (pA3 : List (HloOp τ sig (Elt F))).Forall fun op => op.fresh = ∅ := StableHlo.forall_fresh_of_map rfl
/-- The references it writes. -/
abbrev pA3_W : List (Ref sig .tc) := [main_v25, main_v26, main_v27, main_v28, main_v29, main_v30]
/-- The piece `pA3` writes only the references listed for it. -/
theorem pA3_writes : (pA3 : List (HloOp τ sig (Elt F))).Forall fun op => op.writes ⊆ (pA3_W.map (Proc.devRef (τ := τ) .tc)).toFinset :=
  StableHlo.forall_writes_sub_of_map rfl

/-- The call of `argmax` in @main, first part. -/
abbrev pA4 : List (HloOp τ sig (Elt F)) := argmaxOps (.of main_v30) main_call7
/-- Each touches TensorCore references only. -/
theorem pA4_sub : (pA4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- None allocates a buffer. -/
theorem pA4_fresh : (pA4 : List (HloOp τ sig (Elt F))).Forall fun op => op.fresh = ∅ := StableHlo.forall_fresh_of_map rfl
/-- The references it writes. -/
abbrev pA4_W : List (Ref sig .tc) := [main_call7.v0.ref, main_call7.cst.ref, main_call7.c.ref, main_call7.v1_0.ref, main_call7.v1_1.ref]
/-- The piece `pA4` writes only the references listed for it. -/
theorem pA4_writes : (pA4 : List (HloOp τ sig (Elt F))).Forall fun op => op.writes ⊆ (pA4_W.map (Proc.devRef (τ := τ) .tc)).toFinset :=
  StableHlo.forall_writes_sub_of_map rfl

/-- 17 operations of @main, first part, in order. -/
abbrev pA5 : List (HloOp τ sig (Elt F)) :=
  [ StableHlo.unary main_v31 main_v32 ((extractStridedSlice S64x1 ![0, 31] · slices_S64x32_S64x1_0_31) : (⟨S64x32, .i32⟩ : BufTy).Contents (Elt F) → (⟨S64x1, .i32⟩ : BufTy).Contents (Elt F)),
    StableHlo.reshape main_v32 main_v33 (rfl : (.i32 : EltTy) = .i32) shapeCasts_S64x1_S64,
    StableHlo.nullary main_c_3 (constantI S_ 32 0#32),
    StableHlo.unary main_c_3 main_v34 (broadcastInDim S1x64x32 ![] bcast_S_S1x64x32 : (⟨S_, .i32⟩ : BufTy).Contents (Elt F) → (⟨S1x64x32, .i32⟩ : BufTy).Contents (Elt F)),
    StableHlo.binary main_v15_5 main_v34 main_v35 ((fun a b => concatenate S512x64x32 0 [⟨S511x64x32, a⟩, ⟨S1x64x32, b⟩] concatenates_S511x64x32_S1x64x32_S512x64x32_d0) : (⟨S511x64x32, .i32⟩ : BufTy).Contents (Elt F) → (⟨S1x64x32, .i32⟩ : BufTy).Contents (Elt F) → (⟨S512x64x32, .i32⟩ : BufTy).Contents (Elt F)),
    StableHlo.unary main_v35 main_v36 ((transpose S64x512x32 [1, 0, 2] · transposes_S512x64x32_S64x512x32_1_0_2) : (⟨S512x64x32, .i32⟩ : BufTy).Contents (Elt F) → (⟨S64x512x32, .i32⟩ : BufTy).Contents (Elt F)),
    StableHlo.nullary main_v37 (iotaInDim S64 32 0),
    StableHlo.unary main_v37 main_v38 (broadcastInDim S64x1 ![0] bcast_S64_S64x1_0 : (⟨S64, .i32⟩ : BufTy).Contents (Elt F) → (⟨S64x1, .i32⟩ : BufTy).Contents (Elt F)),
    StableHlo.nullary main_v39 (iotaInDim S32 32 0),
    StableHlo.unary main_v39 main_v40 (broadcastInDim S1x32 ![1] bcast_S32_S1x32_1 : (⟨S32, .i32⟩ : BufTy).Contents (Elt F) → (⟨S1x32, .i32⟩ : BufTy).Contents (Elt F)),
    StableHlo.unary main_v22 main_v41 (broadcastInDim S64x1 ![0] bcast_S64_S64x1_0 : (⟨S64, .i32⟩ : BufTy).Contents (Elt F) → (⟨S64x1, .i32⟩ : BufTy).Contents (Elt F)),
    StableHlo.unary main_v33 main_v42 (broadcastInDim S64x1 ![0] bcast_S64_S64x1_0 : (⟨S64, .i32⟩ : BufTy).Contents (Elt F) → (⟨S64x1, .i32⟩ : BufTy).Contents (Elt F)),
    StableHlo.nullary main_c_4 (constantI S_ 32 0#32),
    StableHlo.unary main_c_4 main_v43 (broadcastInDim S64x1 ![] bcast_S_S64x1 : (⟨S_, .i32⟩ : BufTy).Contents (Elt F) → (⟨S64x1, .i32⟩ : BufTy).Contents (Elt F)),
    StableHlo.binary main_v38 main_v43 main_v44 (cmpi .slt : (⟨S64x1, .i32⟩ : BufTy).Contents (Elt F) → (⟨S64x1, .i32⟩ : BufTy).Contents (Elt F) → (⟨S64x1, .i1⟩ : BufTy).Contents (Elt F)),
    StableHlo.nullary main_c_5 (constantI S_ 32 64#32),
    StableHlo.unary main_c_5 main_v45 (broadcastInDim S64x1 ![] bcast_S_S64x1 : (⟨S_, .i32⟩ : BufTy).Contents (Elt F) → (⟨S64x1, .i32⟩ : BufTy).Contents (Elt F)) ]
/-- Each touches TensorCore references only. -/
theorem pA5_sub : (pA5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub ..⟩
/-- None allocates a buffer. -/
theorem pA5_fresh : (pA5 : List (HloOp τ sig (Elt F))).Forall fun op => op.fresh = ∅ := StableHlo.forall_fresh_of_map rfl
/-- The references it writes. -/
abbrev pA5_W : List (Ref sig .tc) := [main_v32, main_v33, main_c_3, main_v34, main_v35, main_v36, main_v37, main_v38, main_v39, main_v40, main_v41, main_v42, main_c_4, main_v43, main_v44, main_c_5, main_v45]
/-- The piece `pA5` writes only the references listed for it. -/
theorem pA5_writes : (pA5 : List (HloOp τ sig (Elt F))).Forall fun op => op.writes ⊆ (pA5_W.map (Proc.devRef (τ := τ) .tc)).toFinset :=
  StableHlo.forall_writes_sub_of_map rfl

/-- 35 operations of @main, second part, in order. -/
abbrev pB0 : List (HloOp τ sig (Elt F)) :=
  [ StableHlo.binary main_v38 main_v45 main_v46 (addi : (⟨S64x1, .i32⟩ : BufTy).Contents (Elt F) → (⟨S64x1, .i32⟩ : BufTy).Contents (Elt F) → (⟨S64x1, .i32⟩ : BufTy).Contents (Elt F)),
    StableHlo.ternary main_v44 main_v46 main_v38 main_v47 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_6 (constantI S_ 32 0#32),
    StableHlo.unary main_c_6 main_v48 (broadcastInDim S64x1 ![] bcast_S_S64x1 : (⟨S_, .i32⟩ : BufTy).Contents (Elt F) → (⟨S64x1, .i32⟩ : BufTy).Contents (Elt F)),
    StableHlo.binary main_v41 main_v48 main_v49 (cmpi .slt : (⟨S64x1, .i32⟩ : BufTy).Contents (Elt F) → (⟨S64x1, .i32⟩ : BufTy).Contents (Elt F) → (⟨S64x1, .i1⟩ : BufTy).Contents (Elt F)),
    StableHlo.nullary main_c_7 (constantI S_ 32 512#32),
    StableHlo.unary main_c_7 main_v50 (broadcastInDim S64x1 ![] bcast_S_S64x1 : (⟨S_, .i32⟩ : BufTy).Contents (Elt F) → (⟨S64x1, .i32⟩ : BufTy).Contents (Elt F)),
    StableHlo.binary main_v41 main_v50 main_v51 (addi : (⟨S64x1, .i32⟩ : BufTy).Contents (Elt F) → (⟨S64x1, .i32⟩ : BufTy).Contents (Elt F) → (⟨S64x1, .i32⟩ : BufTy).Contents (Elt F)),
    StableHlo.ternary main_v49 main_v51 main_v41 main_v52 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_8 (constantI S_ 32 0#32),
    StableHlo.unary main_c_8 main_v53 (broadcastInDim S1x32 ![] bcast_S_S1x32 : (⟨S_, .i32⟩ : BufTy).Contents (Elt F) → (⟨S1x32, .i32⟩ : BufTy).Contents (Elt F)),
    StableHlo.binary main_v40 main_v53 main_v54 (cmpi .slt : (⟨S1x32, .i32⟩ : BufTy).Contents (Elt F) → (⟨S1x32, .i32⟩ : BufTy).Contents (Elt F) → (⟨S1x32, .i1⟩ : BufTy).Contents (Elt F)),
    StableHlo.nullary main_c_9 (constantI S_ 32 32#32),
    StableHlo.unary main_c_9 main_v55 (broadcastInDim S1x32 ![] bcast_S_S1x32 : (⟨S_, .i32⟩ : BufTy).Contents (Elt F) → (⟨S1x32, .i32⟩ : BufTy).Contents (Elt F)),
    StableHlo.binary main_v40 main_v55 main_v56 (addi : (⟨S1x32, .i32⟩ : BufTy).Contents (Elt F) → (⟨S1x32, .i32⟩ : BufTy).Contents (Elt F) → (⟨S1x32, .i32⟩ : BufTy).Contents (Elt F)),
    StableHlo.ternary main_v54 main_v56 main_v40 main_v57 (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)),
    StableHlo.unary main_v47 main_v58 (broadcastInDim S64x32 ![0, 1] bcast_S64x1_S64x32_0_1 : (⟨S64x1, .i32⟩ : BufTy).Contents (Elt F) → (⟨S64x32, .i32⟩ : BufTy).Contents (Elt F)),
    StableHlo.unary main_v52 main_v59 (broadcastInDim S64x32 ![0, 1] bcast_S64x1_S64x32_0_1 : (⟨S64x1, .i32⟩ : BufTy).Contents (Elt F) → (⟨S64x32, .i32⟩ : BufTy).Contents (Elt F)),
    StableHlo.unary main_v57 main_v60 (broadcastInDim S64x32 ![0, 1] bcast_S1x32_S64x32_0_1 : (⟨S1x32, .i32⟩ : BufTy).Contents (Elt F) → (⟨S64x32, .i32⟩ : BufTy).Contents (Elt F)),
    StableHlo.unary main_v58 main_v61 (broadcastInDim S64x32x1 ![0, 1] bcast_S64x32_S64x32x1_0_1 : (⟨S64x32, .i32⟩ : BufTy).Contents (Elt F) → (⟨S64x32x1, .i32⟩ : BufTy).Contents (Elt F)),
    StableHlo.unary main_v59 main_v62 (broadcastInDim S64x32x1 ![0, 1] bcast_S64x32_S64x32x1_0_1 : (⟨S64x32, .i32⟩ : BufTy).Contents (Elt F) → (⟨S64x32x1, .i32⟩ : BufTy).Contents (Elt F)),
    StableHlo.unary main_v60 main_v63 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v61, main_v62, main_v63] main_v64 (fun u => (concatenate S64x32x3 2 [⟨S64x32x1, (u 0 : (⟨S64x32x1, .i32⟩ : BufTy).Contents (Elt F))⟩, ⟨S64x32x1, (u 1 : (⟨S64x32x1, .i32⟩ : BufTy).Contents (Elt F))⟩, ⟨S64x32x1, (u 2 : (⟨S64x32x1, .i32⟩ : BufTy).Contents (Elt F))⟩] concatenates_S64x32x1_S64x32x1_S64x32x1_S64x32x3_d2 : (⟨S64x32x3, .i32⟩ : BufTy).Contents (Elt F))),
    StableHlo.unary main_v42 main_v65 (broadcastInDim S64x32 ![0, 1] bcast_S64x1_S64x32_0_1 : (⟨S64x1, .i32⟩ : BufTy).Contents (Elt F) → (⟨S64x32, .i32⟩ : BufTy).Contents (Elt F)),
    StableHlo.ternary main_v36 main_v64 main_v65 main_v66 ((fun x i u => Host.scatter scatter_S64x512x32_S64x32x3_S64x32_n_012_012_2 (fun _ b => b) x i u) : (⟨S64x512x32, .i32⟩ : BufTy).Contents (Elt F) → (⟨S64x32x3, .i32⟩ : BufTy).Contents (Elt F) → (⟨S64x32, .i32⟩ : BufTy).Contents (Elt F) → (⟨S64x512x32, .i32⟩ : BufTy).Contents (Elt F)),
    StableHlo.unary main_v66 main_v67 ((transpose S512x64x32 [1, 0, 2] · transposes_S64x512x32_S512x64x32_1_0_2) : (⟨S64x512x32, .i32⟩ : BufTy).Contents (Elt F) → (⟨S512x64x32, .i32⟩ : BufTy).Contents (Elt F)),
    StableHlo.unary main_v67 main_v68 ((extractStridedSlice S511x64x32 ![0, 0, 0] · slices_S512x64x32_S511x64x32_0_0_0) : (⟨S512x64x32, .i32⟩ : BufTy).Contents (Elt F) → (⟨S511x64x32, .i32⟩ : BufTy).Contents (Elt F)),
    StableHlo.unary main_v68 main_v69 (Host.reverse [0] : (⟨S511x64x32, .i32⟩ : BufTy).Contents (Elt F) → (⟨S511x64x32, .i32⟩ : BufTy).Contents (Elt F)),
    StableHlo.nullary main_c_10 (constantI S_ 32 0#32),
    StableHlo.unary main_c_10 main_v70 (broadcastInDim S511x64 ![] bcast_S_S511x64 : (⟨S_, .i32⟩ : BufTy).Contents (Elt F) → (⟨S511x64, .i32⟩ : BufTy).Contents (Elt F)),
    StableHlo.nullary main_c_11 (constantI S_ 32 0#32),
    StableHlo.unary main_v69 main_v71_0 id,
    StableHlo.unary main_c_11 main_v71_1 id,
    StableHlo.unary main_v33 main_v71_2 id,
    StableHlo.unary main_v70 main_v71_3 id ]
/-- Each touches TensorCore references only. -/
theorem pB0_sub : (pB0 : List (HloOp τ sig (Elt F))).Forall fun op => op.bufs ⊆ StableHlo.tcRefs τ sig :=
  ⟨StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.ternary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- None allocates a buffer. -/
theorem pB0_fresh : (pB0 : List (HloOp τ sig (Elt F))).Forall fun op => op.fresh = ∅ := StableHlo.forall_fresh_of_map rfl
/-- The references it writes. -/
abbrev pB0_W : List (Ref sig .tc) := [main_v46, main_v47, main_c_6, main_v48, main_v49, main_c_7, main_v50, main_v51, main_v52, main_c_8, main_v53, main_v54, main_c_9, main_v55, main_v56, main_v57, main_v58, main_v59, main_v60, main_v61, main_v62, main_v63, main_v64, main_v65, main_v66, main_v67, main_v68, main_v69, main_c_10, main_v70, main_c_11, main_v71_0, main_v71_1, main_v71_2, main_v71_3]
/-- The piece `pB0` writes only the references listed for it. -/
theorem pB0_writes : (pB0 : List (HloOp τ sig (Elt F))).Forall fun op => op.writes ⊆ (pB0_W.map (Proc.devRef (τ := τ) .tc)).toFinset :=
  StableHlo.forall_writes_sub_of_map rfl

/-- 4 operations of @main, second part, in order. -/
abbrev pB1 : List (HloOp τ sig (Elt F)) :=
  [ StableHlo.unary main_v71_3 main_v72 (Host.reverse [0] : (⟨S511x64, .i32⟩ : BufTy).Contents (Elt F) → (⟨S511x64, .i32⟩ : BufTy).Contents (Elt F)),
    StableHlo.unary main_v33 main_v73 (broadcastInDim S1x64 ![1] bcast_S64_S1x64_1 : (⟨S64, .i32⟩ : BufTy).Contents (Elt F) → (⟨S1x64, .i32⟩ : BufTy).Contents (Elt F)),
    StableHlo.binary main_v72 main_v73 main_v74 ((fun a b => concatenate S512x64 0 [⟨S511x64, a⟩, ⟨S1x64, b⟩] concatenates_S511x64_S1x64_S512x64_d0) : (⟨S511x64, .i32⟩ : BufTy).Contents (Elt F) → (⟨S1x64, .i32⟩ : BufTy).Contents (Elt F) → (⟨S512x64, .i32⟩ : BufTy).Contents (Elt F)),
    StableHlo.unary main_v74 main_v75 ((transpose S64x512 [1, 0] · transposes_S512x64_S64x512_1_0) : (⟨S512x64, .i32⟩ : BufTy).Contents (Elt F) → (⟨S64x512, .i32⟩ : BufTy).Contents (Elt F)) ]
/-- Each touches TensorCore references only. -/
theorem pB1_sub : (pB1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..⟩
/-- None allocates a buffer. -/
theorem pB1_fresh : (pB1 : List (HloOp τ sig (Elt F))).Forall fun op => op.fresh = ∅ := StableHlo.forall_fresh_of_map rfl
/-- The references it writes. -/
abbrev pB1_W : List (Ref sig .tc) := [main_v72, main_v73, main_v74, main_v75]
/-- The piece `pB1` writes only the references listed for it. -/
theorem pB1_writes : (pB1 : List (HloOp τ sig (Elt F))).Forall fun op => op.writes ⊆ (pB1_W.map (Proc.devRef (τ := τ) .tc)).toFinset :=
  StableHlo.forall_writes_sub_of_map rfl

/-- The call of `dynamic_index_in_dim` in the first loop's body. -/
abbrev bA0 : List (HloOp τ sig (Elt F)) := dynamic_index_in_dimOps (.of main_v15_0) (.of main_v15_2) main_while0b_call0
/-- Each touches TensorCore references only. -/
theorem bA0_sub : (bA0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- None allocates a buffer. -/
theorem bA0_fresh : (bA0 : List (HloOp τ sig (Elt F))).Forall fun op => op.fresh = ∅ := StableHlo.forall_fresh_of_map rfl
/-- The references it writes. -/
abbrev bA0_W : List (Ref sig .tc) := [main_while0b_call0.c.ref, main_while0b_call0.c_0.ref, main_while0b_call0.c_1.ref, main_while0b_call0.v0.ref, main_while0b_call0.v1.ref]
/-- The piece `bA0` writes only the references listed for it. -/
theorem bA0_writes : (bA0 : List (HloOp τ sig (Elt F))).Forall fun op => op.writes ⊆ (bA0_W.map (Proc.devRef (τ := τ) .tc)).toFinset :=
  StableHlo.forall_writes_sub_of_map rfl

/-- The call of `dynamic_index_in_dim_0` in the first loop's body. -/
abbrev bA1 : List (HloOp τ sig (Elt F)) := dynamic_index_in_dim_0Ops (.of main_v15_1) (.of main_v15_2) main_while0b_call1
/-- Each touches TensorCore references only. -/
theorem bA1_sub : (bA1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- None allocates a buffer. -/
theorem bA1_fresh : (bA1 : List (HloOp τ sig (Elt F))).Forall fun op => op.fresh = ∅ := StableHlo.forall_fresh_of_map rfl
/-- The references it writes. -/
abbrev bA1_W : List (Ref sig .tc) := [main_while0b_call1.c.ref, main_while0b_call1.v0.ref, main_while0b_call1.v1.ref]
/-- The piece `bA1` writes only the references listed for it. -/
theorem bA1_writes : (bA1 : List (HloOp τ sig (Elt F))).Forall fun op => op.writes ⊆ (bA1_W.map (Proc.devRef (τ := τ) .tc)).toFinset :=
  StableHlo.forall_writes_sub_of_map rfl

/-- 5 operations of the first loop's body, in order. -/
abbrev bA2 : List (HloOp τ sig (Elt F)) :=
  [ StableHlo.unary main_v15_3 main_while0b_v78 (broadcastInDim S64x32x1 ![0, 1] bcast_S64x32_S64x32x1_0_1 : (⟨S64x32, .f32⟩ : BufTy).Contents (Elt F) → (⟨S64x32x1, .f32⟩ : BufTy).Contents (Elt F)),
    StableHlo.unary main_while0b_v78 main_while0b_v79 (broadcastInDim S64x32x32 ![0, 1, 2] bcast_S64x32x1_S64x32x32_0_1_2 : (⟨S64x32x1, .f32⟩ : BufTy).Contents (Elt F) → (⟨S64x32x32, .f32⟩ : BufTy).Contents (Elt F)),
    StableHlo.binary main_while0b_v76 main_while0b_v79 main_while0b_v80 (addf : (⟨S64x32x32, .f32⟩ : BufTy).Contents (Elt F) → (⟨S64x32x32, .f32⟩ : BufTy).Contents (Elt F) → (⟨S64x32x32, .f32⟩ : BufTy).Contents (Elt F)),
    StableHlo.nullary main_while0b_cst_17 (constant S_ .f32 0xFF800000#32),
    StableHlo.binary main_while0b_v80 main_while0b_cst_17 main_while0b_v81 ((fun x v => Host.reduce FloatOps.maximumf x v reducesTo_S64x32x32_S64x32_d1 h_S_) : (⟨S64x32x32, .f32⟩ : BufTy).Contents (Elt F) → (⟨S_, .f32⟩ : BufTy).Contents (Elt F) → (⟨S64x32, .f32⟩ : BufTy).Contents (Elt F)) ]
/-- Each touches TensorCore references only. -/
theorem bA2_sub : (bA2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub ..⟩
/-- None allocates a buffer. -/
theorem bA2_fresh : (bA2 : List (HloOp τ sig (Elt F))).Forall fun op => op.fresh = ∅ := StableHlo.forall_fresh_of_map rfl
/-- The references it writes. -/
abbrev bA2_W : List (Ref sig .tc) := [main_while0b_v78, main_while0b_v79, main_while0b_v80, main_while0b_cst_17, main_while0b_v81]
/-- The piece `bA2` writes only the references listed for it. -/
theorem bA2_writes : (bA2 : List (HloOp τ sig (Elt F))).Forall fun op => op.writes ⊆ (bA2_W.map (Proc.devRef (τ := τ) .tc)).toFinset :=
  StableHlo.forall_writes_sub_of_map rfl

/-- The call of `argmax` in the first loop's body. -/
abbrev bA3 : List (HloOp τ sig (Elt F)) := argmaxOps (.of main_while0b_v80) main_while0b_call2
/-- Each touches TensorCore references only. -/
theorem bA3_sub : (bA3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- None allocates a buffer. -/
theorem bA3_fresh : (bA3 : List (HloOp τ sig (Elt F))).Forall fun op => op.fresh = ∅ := StableHlo.forall_fresh_of_map rfl
/-- The references it writes. -/
abbrev bA3_W : List (Ref sig .tc) := [main_while0b_call2.v0.ref, main_while0b_call2.cst.ref, main_while0b_call2.c.ref, main_while0b_call2.v1_0.ref, main_while0b_call2.v1_1.ref]
/-- The piece `bA3` writes only the references listed for it. -/
theorem bA3_writes : (bA3 : List (HloOp τ sig (Elt F))).Forall fun op => op.writes ⊆ (bA3_W.map (Proc.devRef (τ := τ) .tc)).toFinset :=
  StableHlo.forall_writes_sub_of_map rfl

/-- 2 operations of the first loop's body, in order. -/
abbrev bA4 : List (HloOp τ sig (Elt F)) :=
  [ StableHlo.unary main_while0b_v77 main_while0b_v83 (broadcastInDim S64x1 ![0] bcast_S64_S64x1_0 : (⟨S64, .i1⟩ : BufTy).Contents (Elt F) → (⟨S64x1, .i1⟩ : BufTy).Contents (Elt F)),
    StableHlo.nullary main_while0b_c_18 (constantI S_ 32 0#32) ]
/-- Each touches TensorCore references only. -/
theorem bA4_sub : (bA4 : List (HloOp τ sig (Elt F))).Forall fun op => op.bufs ⊆ StableHlo.tcRefs τ sig :=
  ⟨StableHlo.unary_bufs_sub .., StableHlo.nullary_bufs_sub ..⟩
/-- None allocates a buffer. -/
theorem bA4_fresh : (bA4 : List (HloOp τ sig (Elt F))).Forall fun op => op.fresh = ∅ := StableHlo.forall_fresh_of_map rfl
/-- The references it writes. -/
abbrev bA4_W : List (Ref sig .tc) := [main_while0b_v83, main_while0b_c_18]
/-- The piece `bA4` writes only the references listed for it. -/
theorem bA4_writes : (bA4 : List (HloOp τ sig (Elt F))).Forall fun op => op.writes ⊆ (bA4_W.map (Proc.devRef (τ := τ) .tc)).toFinset :=
  StableHlo.forall_writes_sub_of_map rfl

/-- The call of `where` in the first loop's body. -/
abbrev bA5 : List (HloOp τ sig (Elt F)) := whereOps (.of main_while0b_v83) (.of main_while0b_v82) (.of main_while0b_c_18) main_while0b_call3
/-- Each touches TensorCore references only. -/
theorem bA5_sub : (bA5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- None allocates a buffer. -/
theorem bA5_fresh : (bA5 : List (HloOp τ sig (Elt F))).Forall fun op => op.fresh = ∅ := StableHlo.forall_fresh_of_map rfl
/-- The references it writes. -/
abbrev bA5_W : List (Ref sig .tc) := [main_while0b_call3.v0.ref, main_while0b_call3.v1.ref, main_while0b_call3.v2.ref, main_while0b_call3.v3.ref]
/-- The piece `bA5` writes only the references listed for it. -/
theorem bA5_writes : (bA5 : List (HloOp τ sig (Elt F))).Forall fun op => op.writes ⊆ (bA5_W.map (Proc.devRef (τ := τ) .tc)).toFinset :=
  StableHlo.forall_writes_sub_of_map rfl

/-- The call of `dynamic_update_index_in_dim` in the first loop's body. -/
abbrev bA6 : List (HloOp τ sig (Elt F)) := dynamic_update_index_in_dimOps (.of main_v15_4) (.of main_while0b_v81) (.of main_v15_2) main_while0b_call4
/-- Each touches TensorCore references only. -/
theorem bA6_sub : (bA6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- None allocates a buffer. -/
theorem bA6_fresh : (bA6 : List (HloOp τ sig (Elt F))).Forall fun op => op.fresh = ∅ := StableHlo.forall_fresh_of_map rfl
/-- The references it writes. -/
abbrev bA6_W : List (Ref sig .tc) := [main_while0b_call4.v0.ref, main_while0b_call4.c.ref, main_while0b_call4.c_0.ref, main_while0b_call4.v1.ref]
/-- The piece `bA6` writes only the references listed for it. -/
theorem bA6_writes : (bA6 : List (HloOp τ sig (Elt F))).Forall fun op => op.writes ⊆ (bA6_W.map (Proc.devRef (τ := τ) .tc)).toFinset :=
  StableHlo.forall_writes_sub_of_map rfl

/-- The call of `dynamic_update_index_in_dim_1` in the first loop's body. -/
abbrev bA7 : List (HloOp τ sig (Elt F)) := dynamic_update_index_in_dim_1Ops (.of main_v15_5) (.of main_while0b_v84) (.of main_v15_2) main_while0b_call5
/-- Each touches TensorCore references only. -/
theorem bA7_sub : (bA7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- None allocates a buffer. -/
theorem bA7_fresh : (bA7 : List (HloOp τ sig (Elt F))).Forall fun op => op.fresh = ∅ := StableHlo.forall_fresh_of_map rfl
/-- The references it writes. -/
abbrev bA7_W : List (Ref sig .tc) := [main_while0b_call5.v0.ref, main_while0b_call5.c.ref, main_while0b_call5.c_0.ref, main_while0b_call5.v1.ref]
/-- The piece `bA7` writes only the references listed for it. -/
theorem bA7_writes : (bA7 : List (HloOp τ sig (Elt F))).Forall fun op => op.writes ⊆ (bA7_W.map (Proc.devRef (τ := τ) .tc)).toFinset :=
  StableHlo.forall_writes_sub_of_map rfl

/-- 6 operations of the first loop's body, in order. -/
abbrev bA8 : List (HloOp τ sig (Elt F)) :=
  [ StableHlo.nullary main_while0b_c_19 (constantI S_ 32 1#32),
    StableHlo.binary main_v15_2 main_while0b_c_19 main_while0b_v87 (addi : (⟨S_, .i32⟩ : BufTy).Contents (Elt F) → (⟨S_, .i32⟩ : BufTy).Contents (Elt F) → (⟨S_, .i32⟩ : BufTy).Contents (Elt F)),
    StableHlo.unary main_while0b_v87 main_v15_2 id,
    StableHlo.unary main_while0b_v81 main_v15_3 id,
    StableHlo.unary main_while0b_v85 main_v15_4 id,
    StableHlo.unary main_while0b_v86 main_v15_5 id ]
/-- Each touches TensorCore references only. -/
theorem bA8_sub : (bA8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None allocates a buffer. -/
theorem bA8_fresh : (bA8 : List (HloOp τ sig (Elt F))).Forall fun op => op.fresh = ∅ := StableHlo.forall_fresh_of_map rfl
/-- The references it writes. -/
abbrev bA8_W : List (Ref sig .tc) := [main_while0b_c_19, main_while0b_v87, main_v15_2, main_v15_3, main_v15_4, main_v15_5]
/-- The piece `bA8` writes only the references listed for it. -/
theorem bA8_writes : (bA8 : List (HloOp τ sig (Elt F))).Forall fun op => op.writes ⊆ (bA8_W.map (Proc.devRef (τ := τ) .tc)).toFinset :=
  StableHlo.forall_writes_sub_of_map rfl

/-- The call of `dynamic_index_in_dim_2` in the second loop's body. -/
abbrev bB0 : List (HloOp τ sig (Elt F)) := dynamic_index_in_dim_2Ops (.of main_v71_0) (.of main_v71_1) main_while1b_call8
/-- Each touches TensorCore references only. -/
theorem bB0_sub : (bB0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- None allocates a buffer. -/
theorem bB0_fresh : (bB0 : List (HloOp τ sig (Elt F))).Forall fun op => op.fresh = ∅ := StableHlo.forall_fresh_of_map rfl
/-- The references it writes. -/
abbrev bB0_W : List (Ref sig .tc) := [main_while1b_call8.c.ref, main_while1b_call8.c_0.ref, main_while1b_call8.v0.ref, main_while1b_call8.v1.ref]
/-- The piece `bB0` writes only the references listed for it. -/
theorem bB0_writes : (bB0 : List (HloOp τ sig (Elt F))).Forall fun op => op.writes ⊆ (bB0_W.map (Proc.devRef (τ := τ) .tc)).toFinset :=
  StableHlo.forall_writes_sub_of_map rfl

/-- 1 operations of the second loop's body, in order. -/
abbrev bB1 : List (HloOp τ sig (Elt F)) :=
  [ StableHlo.unary main_v71_2 main_while1b_v77 (broadcastInDim S64x1 ![0] bcast_S64_S64x1_0 : (⟨S64, .i32⟩ : BufTy).Contents (Elt F) → (⟨S64x1, .i32⟩ : BufTy).Contents (Elt F)) ]
/-- Each touches TensorCore references only. -/
theorem bB1_sub : (bB1 : List (HloOp τ sig (Elt F))).Forall fun op => op.bufs ⊆ StableHlo.tcRefs τ sig :=
  StableHlo.unary_bufs_sub ..
/-- None allocates a buffer. -/
theorem bB1_fresh : (bB1 : List (HloOp τ sig (Elt F))).Forall fun op => op.fresh = ∅ := StableHlo.forall_fresh_of_map rfl
/-- The references it writes. -/
abbrev bB1_W : List (Ref sig .tc) := [main_while1b_v77]
/-- The piece `bB1` writes only the references listed for it. -/
theorem bB1_writes : (bB1 : List (HloOp τ sig (Elt F))).Forall fun op => op.writes ⊆ (bB1_W.map (Proc.devRef (τ := τ) .tc)).toFinset :=
  StableHlo.forall_writes_sub_of_map rfl

/-- The call of `take_along_axis_3` in the second loop's body. -/
abbrev bB2 : List (HloOp τ sig (Elt F)) := take_along_axis_3Ops (.of main_while1b_v76) (.of main_while1b_v77) main_while1b_call9
/-- Each touches TensorCore references only. -/
theorem bB2_sub : (bB2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- None allocates a buffer. -/
theorem bB2_fresh : (bB2 : List (HloOp τ sig (Elt F))).Forall fun op => op.fresh = ∅ := StableHlo.forall_fresh_of_map rfl
/-- The references it writes. -/
abbrev bB2_W : List (Ref sig .tc) := [main_while1b_call9.c.ref, main_while1b_call9.v0.ref, main_while1b_call9.v1.ref, main_while1b_call9.c_0.ref, main_while1b_call9.v2.ref, main_while1b_call9.v3.ref, main_while1b_call9.v4.ref, main_while1b_call9.v5.ref, main_while1b_call9.c_1.ref, main_while1b_call9.c_2.ref, main_while1b_call9.v6.ref, main_while1b_call9.v7.ref, main_while1b_call9.v8.ref, main_while1b_call9.v9.ref, main_while1b_call9.v10.ref, main_while1b_call9.v11.ref, main_while1b_call9.c_3.ref, main_while1b_call9.v12.ref, main_while1b_call9.v13.ref, main_while1b_call9.c_4.ref, main_while1b_call9.v14.ref, main_while1b_call9.v15.ref]
/-- The piece `bB2` writes only the references listed for it. -/
theorem bB2_writes : (bB2 : List (HloOp τ sig (Elt F))).Forall fun op => op.writes ⊆ (bB2_W.map (Proc.devRef (τ := τ) .tc)).toFinset :=
  StableHlo.forall_writes_sub_of_map rfl

/-- 1 operations of the second loop's body, in order. -/
abbrev bB3 : List (HloOp τ sig (Elt F)) :=
  [ StableHlo.reshape main_while1b_v78 main_while1b_v79 (rfl : (.i32 : EltTy) = .i32) shapeCasts_S64x1_S64 ]
/-- Each touches TensorCore references only. -/
theorem bB3_sub : (bB3 : List (HloOp τ sig (Elt F))).Forall fun op => op.bufs ⊆ StableHlo.tcRefs τ sig :=
  StableHlo.reshape_bufs_sub ..
/-- None allocates a buffer. -/
theorem bB3_fresh : (bB3 : List (HloOp τ sig (Elt F))).Forall fun op => op.fresh = ∅ := StableHlo.forall_fresh_of_map rfl
/-- The references it writes. -/
abbrev bB3_W : List (Ref sig .tc) := [main_while1b_v79]
/-- The piece `bB3` writes only the references listed for it. -/
theorem bB3_writes : (bB3 : List (HloOp τ sig (Elt F))).Forall fun op => op.writes ⊆ (bB3_W.map (Proc.devRef (τ := τ) .tc)).toFinset :=
  StableHlo.forall_writes_sub_of_map rfl

/-- The call of `dynamic_update_index_in_dim_4` in the second loop's body. -/
abbrev bB4 : List (HloOp τ sig (Elt F)) := dynamic_update_index_in_dim_4Ops (.of main_v71_3) (.of main_while1b_v79) (.of main_v71_1) main_while1b_call10
/-- Each touches TensorCore references only. -/
theorem bB4_sub : (bB4 : List (HloOp τ sig (Elt F))).Forall fun op => op.bufs ⊆ StableHlo.tcRefs τ sig :=
  ⟨StableHlo.unary_bufs_sub .., StableHlo.nullary_bufs_sub .., StableHlo.binaryIndexed_bufs_sub ..⟩
/-- None allocates a buffer. -/
theorem bB4_fresh : (bB4 : List (HloOp τ sig (Elt F))).Forall fun op => op.fresh = ∅ := StableHlo.forall_fresh_of_map rfl
/-- The references it writes. -/
abbrev bB4_W : List (Ref sig .tc) := [main_while1b_call10.v0.ref, main_while1b_call10.c.ref, main_while1b_call10.v1.ref]
/-- The piece `bB4` writes only the references listed for it. -/
theorem bB4_writes : (bB4 : List (HloOp τ sig (Elt F))).Forall fun op => op.writes ⊆ (bB4_W.map (Proc.devRef (τ := τ) .tc)).toFinset :=
  StableHlo.forall_writes_sub_of_map rfl

/-- 5 operations of the second loop's body, in order. -/
abbrev bB5 : List (HloOp τ sig (Elt F)) :=
  [ StableHlo.nullary main_while1b_c_15 (constantI S_ 32 1#32),
    StableHlo.binary main_v71_1 main_while1b_c_15 main_while1b_v81 (addi : (⟨S_, .i32⟩ : BufTy).Contents (Elt F) → (⟨S_, .i32⟩ : BufTy).Contents (Elt F) → (⟨S_, .i32⟩ : BufTy).Contents (Elt F)),
    StableHlo.unary main_while1b_v81 main_v71_1 id,
    StableHlo.unary main_while1b_v79 main_v71_2 id,
    StableHlo.unary main_while1b_v80 main_v71_3 id ]
/-- Each touches TensorCore references only. -/
theorem bB5_sub : (bB5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- None allocates a buffer. -/
theorem bB5_fresh : (bB5 : List (HloOp τ sig (Elt F))).Forall fun op => op.fresh = ∅ := StableHlo.forall_fresh_of_map rfl
/-- The references it writes. -/
abbrev bB5_W : List (Ref sig .tc) := [main_while1b_c_15, main_while1b_v81, main_v71_1, main_v71_2, main_v71_3]
/-- The piece `bB5` writes only the references listed for it. -/
theorem bB5_writes : (bB5 : List (HloOp τ sig (Elt F))).Forall fun op => op.writes ⊆ (bB5_W.map (Proc.devRef (τ := τ) .tc)).toFinset :=
  StableHlo.forall_writes_sub_of_map rfl

/-- The first part of @main is the chain of its pieces. -/
theorem main_part0_chain (c : Dev nD) : main_part0 (F := F) c = (Pipeline.chainK
  [ StableHlo.seq pA0,
    HostLoop.enter 0,
    StableHlo.seq pA1,
    StableHlo.seq pA2,
    StableHlo.seq pA3,
    StableHlo.seq pA4 ]
  (StableHlo.seq pA5) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- The second part of @main is the chain of its pieces. -/
theorem main_part1_chain (c : Dev nD) : main_part1 (F := F) c = (Pipeline.chain
  [ StableHlo.seq pB0,
    HostLoop.enter 1,
    StableHlo.seq pB1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- @main is the chain of its pieces. -/
theorem main_chain (c : Dev nD) : main (F := F) c = (Pipeline.chain
  [ StableHlo.seq pA0,
    HostLoop.enter 0,
    StableHlo.seq pA1,
    StableHlo.seq pA2,
    StableHlo.seq pA3,
    StableHlo.seq pA4,
    StableHlo.seq pA5,
    StableHlo.seq pB0,
    HostLoop.enter 1,
    StableHlo.seq pB1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- The body of loop 0 is the chain of its pieces. -/
theorem while0_body_chain : main_while0_body (F := F) = (Pipeline.chain
  [ StableHlo.seq bA0,
    StableHlo.seq bA1,
    StableHlo.seq bA2,
    StableHlo.seq bA3,
    StableHlo.seq bA4,
    StableHlo.seq bA5,
    StableHlo.seq bA6,
    StableHlo.seq bA7,
    StableHlo.seq bA8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, Pipeline.chain_cons, Pipeline.chain_cons, StableHlo.chain_seq_cons]
  chain_rfl

/-- The body of loop 1 is the chain of its pieces. -/
theorem while1_body_chain : main_while1_body (F := F) = (Pipeline.chain
  [ StableHlo.seq bB0,
    StableHlo.seq bB1,
    StableHlo.seq bB2,
    StableHlo.seq bB3,
    StableHlo.seq bB4,
    StableHlo.seq bB5 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons, Pipeline.chain_cons, StableHlo.chain_seq_cons]
  chain_rfl

end Cert.ReferenceIdeal.Own

end
-- ==== Proof.RefRun.lean ====
/-
  The reference program's run through its two counted host loops: every execution ends with every buffer at the fold
  of the operation lists, and with every counter at zero.
-/
module

public import proofs.«01_k».proof.Proof.RefOps
public import Idealize.ShloMosaic.Lib.Pipeline.Quiescent

@[expose] public section

set_option maxRecDepth 4096

noncomputable section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-- The first loop's condition: its bound, and the trip counter compared with it. -/
abbrev condA : List (HloOp τ sig (Elt F)) :=
  [ StableHlo.nullary main_while0c_c_17 (constantI S_ 32 511#32),
    StableHlo.binary main_v15_2 main_while0c_c_17 main_while0c_v76 (cmpi .slt) ]
/-- The second loop's condition. -/
abbrev condB : List (HloOp τ sig (Elt F)) :=
  [ StableHlo.nullary main_while1c_c_15 (constantI S_ 32 511#32),
    StableHlo.binary main_v71_1 main_while1c_c_15 main_while1c_v76 (cmpi .slt) ]

/-- @main's piece before the first loop. -/
abbrev preI : List (List (HloOp τ sig (Elt F))) := [pA0]
/-- @main's pieces between the loops. -/
abbrev midI : List (List (HloOp τ sig (Elt F))) := [pA1, pA2, pA3, pA4, pA5, pB0]
/-- @main's piece after the second loop. -/
abbrev postI : List (List (HloOp τ sig (Elt F))) := [pB1]
/-- The first loop's body. -/
abbrev bodyA : List (List (HloOp τ sig (Elt F))) := [bA0, bA1, bA2, bA3, bA4, bA5, bA6, bA7, bA8]
/-- The second loop's body. -/
abbrev bodyB : List (List (HloOp τ sig (Elt F))) := [bB0, bB1, bB2, bB3, bB4, bB5]

/-- A piece in front of a plain list. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) :
    Plain (ops :: rest) := .cons hs h (hf := List.forall_iff_forall_mem.mp hf)

/-- The part before the first loop is plain. -/
theorem hpre : Plain (preI (F := F)) := plain_cons pA0_sub pA0_fresh .nil
/-- The part between the loops is plain. -/
theorem hmid : Plain (midI (F := F)) :=
  plain_cons pA1_sub pA1_fresh (plain_cons pA2_sub pA2_fresh (plain_cons pA3_sub pA3_fresh (plain_cons pA4_sub pA4_fresh
    (plain_cons pA5_sub pA5_fresh (plain_cons pB0_sub pB0_fresh .nil)))))
/-- The part after the second loop is plain. -/
theorem hpost : Plain (postI (F := F)) := plain_cons pB1_sub pB1_fresh .nil
/-- The first loop's body is plain. -/
theorem hbodyA : Plain (bodyA (F := F)) :=
  plain_cons bA0_sub bA0_fresh (plain_cons bA1_sub bA1_fresh (plain_cons bA2_sub bA2_fresh (plain_cons bA3_sub bA3_fresh
    (plain_cons bA4_sub bA4_fresh (plain_cons bA5_sub bA5_fresh (plain_cons bA6_sub bA6_fresh (plain_cons bA7_sub bA7_fresh
      (plain_cons bA8_sub bA8_fresh .nil))))))))
/-- The second loop's body is plain. -/
theorem hbodyB : Plain (bodyB (F := F)) :=
  plain_cons bB0_sub bB0_fresh (plain_cons bB1_sub bB1_fresh (plain_cons bB2_sub bB2_fresh (plain_cons bB3_sub bB3_fresh
    (plain_cons bB4_sub bB4_fresh (plain_cons bB5_sub bB5_fresh .nil)))))

/-- What the first loop's condition writes. -/
abbrev condA_W : List (Ref sig .tc) := [main_while0c_c_17, main_while0c_v76]
/-- It writes nothing else. -/
theorem condA_writes : (condA : List (HloOp τ sig (Elt F))).Forall fun op => op.writes ⊆ (condA_W.map (Proc.devRef (τ := τ) .tc)).toFinset :=
  StableHlo.forall_writes_sub_of_map rfl
/-- What the second loop's condition writes. -/
abbrev condB_W : List (Ref sig .tc) := [main_while1c_c_15, main_while1c_v76]
/-- It writes nothing else. -/
theorem condB_writes : (condB : List (HloOp τ sig (Elt F))).Forall fun op => op.writes ⊆ (condB_W.map (Proc.devRef (τ := τ) .tc)).toFinset :=
  StableHlo.forall_writes_sub_of_map rfl

variable (m : (ℓ : Loc nD τ sig) → Buf (Elt F) ℓ) (ρ : Dev nD → PrngReg)

/-- Every buffer as the first loop finds it. -/
abbrev entA (c : Dev nD) : Valuation τ sig (Elt F) := afterL preI (launchContents m c)
/-- Every buffer before the first loop's `k`-th condition. -/
abbrev atA (k : ℕ) (c : Dev nD) : Valuation τ sig (Elt F) := atTrip condA bodyA (entA m) k c
/-- Every buffer after the first loop's last condition. -/
abbrev outA (c : Dev nD) : Valuation τ sig (Elt F) := after condA (atA m 511 c)
/-- Every buffer as the second loop finds it. -/
abbrev entB (c : Dev nD) : Valuation τ sig (Elt F) := afterL midI (outA m c)
/-- Every buffer before the second loop's `k`-th condition. -/
abbrev atB (k : ℕ) (c : Dev nD) : Valuation τ sig (Elt F) := atTrip condB bodyB (entB m) k c
/-- Every buffer after the second loop's last condition. -/
abbrev outB (c : Dev nD) : Valuation τ sig (Elt F) := after condB (atB m 511 c)
/-- Every buffer at @main's end. -/
abbrev fin (c : Dev nD) : Valuation τ sig (Elt F) := afterL postI (outB m c)

/-- One trip of the first loop, its condition included, leaves the counter one on. -/
theorem ctrA_step (X : Valuation τ sig (Elt F)) :
    afterL bodyA (after condA X) (Proc.devRef .tc main_v15_2) = addi (X (Proc.devRef .tc main_v15_2)) (constantI S_ 32 1#32) := by
  simp only [afterL_cons, afterL_nil]
  have h8 : ∀ Y : Valuation τ sig (Elt F), after bA8 Y (Proc.devRef .tc main_v15_2) = addi (Y (Proc.devRef .tc main_v15_2)) (constantI S_ 32 1#32) := fun Y => by
    after_results; rfl
  rw [h8, after_of_writes_sub bA7 _ bA7_writes (by decide +kernel), after_of_writes_sub bA6 _ bA6_writes (by decide +kernel),
    after_of_writes_sub bA5 _ bA5_writes (by decide +kernel), after_of_writes_sub bA4 _ bA4_writes (by decide +kernel),
    after_of_writes_sub bA3 _ bA3_writes (by decide +kernel), after_of_writes_sub bA2 _ bA2_writes (by decide +kernel),
    after_of_writes_sub bA1 _ bA1_writes (by decide +kernel), after_of_writes_sub bA0 _ bA0_writes (by decide +kernel),
    after_of_writes_sub condA _ condA_writes (by decide +kernel)]

/-- One trip of the second loop, its condition included, leaves the counter one on. -/
theorem ctrB_step (X : Valuation τ sig (Elt F)) :
    afterL bodyB (after condB X) (Proc.devRef .tc main_v71_1) = addi (X (Proc.devRef .tc main_v71_1)) (constantI S_ 32 1#32) := by
  simp only [afterL_cons, afterL_nil]
  have h5 : ∀ Y : Valuation τ sig (Elt F), after bB5 Y (Proc.devRef .tc main_v71_1) = addi (Y (Proc.devRef .tc main_v71_1)) (constantI S_ 32 1#32) := fun Y => by
    after_results; rfl
  rw [h5, after_of_writes_sub bB4 _ bB4_writes (by decide +kernel),
    after_of_writes_sub bB3 _ bB3_writes (by decide +kernel), after_of_writes_sub bB2 _ bB2_writes (by decide +kernel),
    after_of_writes_sub bB1 _ bB1_writes (by decide +kernel), after_of_writes_sub bB0 _ bB0_writes (by decide +kernel),
    after_of_writes_sub condB _ condB_writes (by decide +kernel)]

/-- The first loop's counter starts at zero. -/
theorem ctrA_entry (c : Dev nD) : entA m c (Proc.devRef .tc main_v15_2) = fun _ => (0#32 : BitVec 32) := by
  simp only [entA, afterL_cons, afterL_nil]
  after_reads_simp
  rfl

/-- The second loop's counter starts at zero. -/
theorem ctrB_entry (c : Dev nD) : entB m c (Proc.devRef .tc main_v71_1) = fun _ => (0#32 : BitVec 32) := by
  simp only [entB, afterL_cons, afterL_nil]
  generalize after pA5 _ = V
  after_reads_simp
  rfl

/-- Before its `k`-th condition the first loop's counter is `k`. -/
theorem ctrA (c : Dev nD) : ∀ k, atA m k c (Proc.devRef .tc main_v15_2) = fun _ => Scf.iv 0#32 1#32 k
  | 0 => by rw [show atA m 0 c = entA m c from rfl, ctrA_entry, Scf.iv_zero]
  | k + 1 => by
    rw [show atA m (k + 1) c = afterL bodyA (after condA (atA m k c)) from rfl, ctrA_step, ctrA c k, Scf.iv_succ]
    rfl

/-- Before its `k`-th condition the second loop's counter is `k`. -/
theorem ctrB (c : Dev nD) : ∀ k, atB m k c (Proc.devRef .tc main_v71_1) = fun _ => Scf.iv 0#32 1#32 k
  | 0 => by rw [show atB m 0 c = entB m c from rfl, ctrB_entry, Scf.iv_zero]
  | k + 1 => by
    rw [show atB m (k + 1) c = afterL bodyB (after condB (atB m k c)) from rfl, ctrB_step, ctrB c k, Scf.iv_succ]
    rfl

local notation "𝕄" => MT nD τ sig Unit (Elt F) ℕ (Option PUnit) ℕ

/-- There is no pipeline to admit. -/
abbrev adm : (p : Fin 0) → (pcfgs (F := F) p).Adm := fun p => p.elim0
/-- There is no ticket. -/
abbrev tk : Fin 0 → Ticket (Ix := Unit) (Name := ℕ) (U := Option PUnit) (Lvl := ℕ) (nD := nD) (τ := τ) (pcfgs (F := F)) adm := fun j => j.elim0
/-- No counter is watched. -/
abbrev L : GSem nD τ sig → Finset Unit := fun _ => ∅
/-- Every level is zero. -/
abbrev lv : GSem nD τ sig → Unit → ℕ := fun _ _ => 0
/-- What rides along beside the buffers. -/
abbrev Rw (c : Dev nD) : sProp 𝕄 := iprop(∃ W, owes (c : Thread nD τ) (0 : CellTallies nD τ sig Unit) W)

set_option backward.isDefEq.respectTransparency.types false in
/-- The first loop's condition at the fold. -/
theorem condA_spec : LoopCond (pcfgs (F := F)) defs₀ Variants.none loops (Rw (F := F)) (main_while0_cond (F := F)) condA bodyA (entA m) 511 := by
  intro k hk c bd
  have hctr := ctrA m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atA m k c) main_v15_2 HostLoop.idx0)
        (HloOp.result _ (atA m k c) main_while0c_c_17 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  isplitl [Hh]
  · rw [after_cons, after_cons, after_nil]; iexact Hh
  iexact HR

set_option backward.isDefEq.respectTransparency.types false in
/-- The second loop's condition at the fold. -/
theorem condB_spec : LoopCond (pcfgs (F := F)) defs₀ Variants.none loops (Rw (F := F)) (main_while1_cond (F := F)) condB bodyB (entB m) 511 := by
  intro k hk c bd
  have hctr := ctrB m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atB m k c) main_v71_1 HostLoop.idx0)
        (HloOp.result _ (atB m k c) main_while1c_c_15 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  isplitl [Hh]
  · rw [after_cons, after_cons, after_nil]; iexact Hh
  iexact HR

/-- The two loops as segments. -/
abbrev segA : CSeg (pcfgs (F := F)) adm defs₀ Variants.none L lv loops (tk (F := F)) :=
  loopSeg _ _ _ _ _ _ _ _ 0 main_while0_cond main_while0_body rfl condA bodyA hbodyA (by rw [while0_body_chain]; rfl) 511 (entA m) Rw (condA_spec m)
/-- The second loop, as a segment of the chain. -/
abbrev segB : CSeg (pcfgs (F := F)) adm defs₀ Variants.none L lv loops (tk (F := F)) :=
  loopSeg _ _ _ _ _ _ _ _ 1 main_while1_cond main_while1_body rfl condB bodyB hbodyB (by rw [while1_body_chain]; rfl) 511 (entB m) Rw (condB_spec m)

/-- @main's segments. -/
def segs : List (CSeg (pcfgs (F := F)) adm defs₀ Variants.none L lv loops (tk (F := F))) :=
  segsOf _ _ _ _ _ _ _ _ Rw preI hpre (launchContents m)
    ++ segA m :: (segsOf _ _ _ _ _ _ _ _ Rw midI hmid (outA m)
      ++ segB m :: segsOf _ _ _ _ _ _ _ _ Rw postI hpost (outB m))

/-- The segments' programs are @main's pieces in order. -/
theorem segs_prog : (segs (F := F) m).map CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold segs
  rw [List.map_append, List.map_cons, List.map_append, List.map_cons, segsOf_prog, segsOf_prog, segsOf_prog]
  rfl

/-- Each segment starts from what the one before leaves. -/
theorem segs_chains : CSeg.Chains (fun c => iprop(held (c : Thread nD τ) (ucRefs τ sig) (launchContents m c) ∗ Rw c)) (segs (F := F) m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw preI hpre _) ⟨fun _ => .rfl,
    CSeg.Chains.append (segsOf_chains _ _ _ _ _ _ _ _ Rw midI hmid _) ⟨fun _ => .rfl, segsOf_chains _ _ _ _ _ _ _ _ Rw postI hpost _⟩⟩

set_option maxRecDepth 100000 in
/-- Every weakly fair execution of @main from zero counters ends, every buffer of the program at the fold and every
    counter at zero. -/
theorem run_fold : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main
    (segs m)
    (fun c Q => by
      rw [main_chain c]
      show wp _ _ _ _ Q ⊢ wp _ _ _ (Pipeline.chain ((segs m).map CSeg.prog)) Q
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h hs => ⟨fun c b hb => h c _ (devRef_mem_ucRefs b hb), sem_eq_zero_of_no_sems rfl _⟩)

/-! ## What the run leaves as it was -/

/-- A reference none of the listed ones is left alone by a trip of the first loop. -/
theorem tripA_keeps {r : Ref sig .tc}
    (h : r ∉ condA_W ++ (bA0_W ++ (bA1_W ++ (bA2_W ++ (bA3_W ++ (bA4_W ++ (bA5_W ++ (bA6_W ++ (bA7_W ++ bA8_W)))))))))
    (X : Valuation τ sig (Elt F)) :
    afterL bodyA (after condA X) (Proc.devRef .tc r) = X (Proc.devRef .tc r) := by
  simp only [List.mem_append, not_or] at h
  obtain ⟨hc, h0, h1, h2, h3, h4, h5, h6, h7, h8⟩ := h
  simp only [afterL_cons, afterL_nil]
  rw [after_of_writes_sub bA8 _ bA8_writes h8, after_of_writes_sub bA7 _ bA7_writes h7, after_of_writes_sub bA6 _ bA6_writes h6,
    after_of_writes_sub bA5 _ bA5_writes h5, after_of_writes_sub bA4 _ bA4_writes h4, after_of_writes_sub bA3 _ bA3_writes h3,
    after_of_writes_sub bA2 _ bA2_writes h2, after_of_writes_sub bA1 _ bA1_writes h1, after_of_writes_sub bA0 _ bA0_writes h0,
    after_of_writes_sub condA _ condA_writes hc]

/-- The same of a trip of the second loop. -/
theorem tripB_keeps {r : Ref sig .tc}
    (h : r ∉ condB_W ++ (bB0_W ++ (bB1_W ++ (bB2_W ++ (bB3_W ++ (bB4_W ++ bB5_W))))))
    (X : Valuation τ sig (Elt F)) :
    afterL bodyB (after condB X) (Proc.devRef .tc r) = X (Proc.devRef .tc r) := by
  simp only [List.mem_append, not_or] at h
  obtain ⟨hc, h0, h1, h2, h3, h4, h5⟩ := h
  simp only [afterL_cons, afterL_nil]
  rw [after_of_writes_sub bB5 _ bB5_writes h5, after_of_writes_sub bB4 _ bB4_writes h4, after_of_writes_sub bB3 _ bB3_writes h3,
    after_of_writes_sub bB2 _ bB2_writes h2, after_of_writes_sub bB1 _ bB1_writes h1, after_of_writes_sub bB0 _ bB0_writes h0,
    after_of_writes_sub condB _ condB_writes hc]

/-- The same of the pieces between the loops. -/
theorem mid_keeps {r : Ref sig .tc}
    (h : r ∉ pA1_W ++ (pA2_W ++ (pA3_W ++ (pA4_W ++ (pA5_W ++ pB0_W))))) (X : Valuation τ sig (Elt F)) :
    afterL midI X (Proc.devRef .tc r) = X (Proc.devRef .tc r) := by
  simp only [List.mem_append, not_or] at h
  obtain ⟨h0, h1, h2, h3, h4, h5⟩ := h
  simp only [afterL_cons, afterL_nil]
  rw [after_of_writes_sub pB0 _ pB0_writes h5, after_of_writes_sub pA5 _ pA5_writes h4, after_of_writes_sub pA4 _ pA4_writes h3,
    after_of_writes_sub pA3 _ pA3_writes h2, after_of_writes_sub pA2 _ pA2_writes h1, after_of_writes_sub pA1 _ pA1_writes h0]

/-- A reference the first loop does not write holds after it what it held before. -/
theorem outA_keeps {r : Ref sig .tc}
    (h : r ∉ condA_W ++ (bA0_W ++ (bA1_W ++ (bA2_W ++ (bA3_W ++ (bA4_W ++ (bA5_W ++ (bA6_W ++ (bA7_W ++ bA8_W)))))))))
    (c : Dev nD) : outA m c (Proc.devRef .tc r) = entA m c (Proc.devRef .tc r) := by
  have hk : ∀ k, atA m k c (Proc.devRef .tc r) = entA m c (Proc.devRef .tc r) := fun k => by
    induction k with
    | zero => rfl
    | succ k ih => exact (tripA_keeps h _).trans ih
  exact (after_of_writes_sub condA _ condA_writes (fun hr => h (List.mem_append_left _ hr))).trans (hk 511)

/-- A reference the second loop does not write holds after it what it held before. -/
theorem outB_keeps {r : Ref sig .tc}
    (h : r ∉ condB_W ++ (bB0_W ++ (bB1_W ++ (bB2_W ++ (bB3_W ++ (bB4_W ++ bB5_W))))))
    (c : Dev nD) : outB m c (Proc.devRef .tc r) = entB m c (Proc.devRef .tc r) := by
  have hk : ∀ k, atB m k c (Proc.devRef .tc r) = entB m c (Proc.devRef .tc r) := fun k => by
    induction k with
    | zero => rfl
    | succ k ih => exact (tripB_keeps h _).trans ih
  exact (after_of_writes_sub condB _ condB_writes (fun hr => h (List.mem_append_left _ hr))).trans (hk 511)

/-- A reference no operation of @main writes ends as launched. -/
theorem fin_keeps {r : Ref sig .tc} (h₀ : r ∉ pA0_W)
    (hA : r ∉ condA_W ++ (bA0_W ++ (bA1_W ++ (bA2_W ++ (bA3_W ++ (bA4_W ++ (bA5_W ++ (bA6_W ++ (bA7_W ++ bA8_W)))))))))
    (hM : r ∉ pA1_W ++ (pA2_W ++ (pA3_W ++ (pA4_W ++ (pA5_W ++ pB0_W)))))
    (hB : r ∉ condB_W ++ (bB0_W ++ (bB1_W ++ (bB2_W ++ (bB3_W ++ (bB4_W ++ bB5_W))))))
    (h₁ : r ∉ pB1_W) (c : Dev nD) : fin m c (Proc.devRef .tc r) = m ((c.tc : Thread nD τ).loc r) := by
  simp only [fin, afterL_cons, afterL_nil]
  rw [after_of_writes_sub pB1 _ pB1_writes h₁, outB_keeps m hB, entB, mid_keeps hM, outA_keeps m hA]
  exact after_of_writes_sub pA0 _ pA0_writes h₀

set_option maxRecDepth 16384 in
/-- The three arguments end as launched, and every counter at zero. -/
theorem quiescent : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun _ h => ⟨fun c =>
    ⟨(h.1 c main_arg0 rfl).trans (fin_keeps m (by decide +kernel) (by decide +kernel) (by decide +kernel) (by decide +kernel) (by decide +kernel) c),
     (h.1 c main_arg1 rfl).trans (fin_keeps m (by decide +kernel) (by decide +kernel) (by decide +kernel) (by decide +kernel) (by decide +kernel) c),
     (h.1 c main_arg2 rfl).trans (fin_keeps m (by decide +kernel) (by decide +kernel) (by decide +kernel) (by decide +kernel) (by decide +kernel) c)⟩,
    h.2⟩) (run_fold m ρ)

end Cert.ReferenceIdeal.Own

end
-- ==== Proof.Frames.lean ====
/-
  The unchanged-argument claims of the three programs, at the instances the certificate states them.
-/
module

public import proofs.«01_k».proof.Proof.KRun
public import proofs.«01_k».proof.Proof.RefRun
public import proofs.«01_k».proof.Proof.Gen.Kernel

@[expose] public section

noncomputable section

namespace Cert.Proof

open Idealize.ShloMosaic Idealize.ShloMosaic.TcCoe Idealize.SL.Sem

/-- The two programs' label tables are one table, label by label. -/
theorem defs₀_eq : (Cert.Kernel.defs₀ (F := Bits)) = (Cert.KernelIdeal.defs₀ (F := Bits)) :=
  congrArg (Defs.onTc (nD := Cert.Kernel.nD) (τ := Cert.Kernel.τ) (sig := Cert.Kernel.sig) (Val := Elt Bits) (Λ := Cert.Kernel.Λ₀)) (by
    funext l x
    match l, x with
    | ⟨0, _⟩, _ => rfl)

/-- So are their tables with the pipeline's labels. -/
theorem defs_eq : (Cert.Kernel.defs (F := Bits)) = (Cert.KernelIdeal.defs (F := Bits)) :=
  congrArg (Pipeline.defs (Cert.Kernel.pcfgs (F := Bits))) defs₀_eq

/-- The kernel at the bit-exact instance: its text and its idealization's are the same program, so the run proved at any
    instance is read here at the bits. -/
theorem kernel_quiescent (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  defs_eq ▸ Cert.KernelIdeal.Own.quiescent (F := Bits) m g

end Cert.Proof
-- ==== Proof.Spec.lean ====
/-
  Viterbi decoding in plain terms, at extended reals: the forward values, the best previous tag of each step, and the tags
  read backwards from the best last one. Beside them, what the two programs' reductions over the 32 tags are: a maximum is
  the value at the least best tag, the kernel's minimum of the tags where the maximum is attained and the reference's
  two-operand argmax are that tag, and the kernel's masked maximum is a look-up.
-/
module

public import Idealize.ShloMosaic.Lib.Pointwise
public import Idealize.ShloMosaic.Lib.SortNet.Extract

@[expose] public section

noncomputable section

namespace Cert.Viterbi

open Idealize.ShloMosaic

/-- `i` is the least tag at which `s` is largest. -/
def IsBest (s : Fin 32 → EReal) (i : Fin 32) : Prop := (∀ j, s j ≤ s i) ∧ ∀ j, s i ≤ s j → i ≤ j

/-- Every score has a least best tag. -/
theorem exists_best (s : Fin 32 → EReal) : ∃ i, IsBest s i := by
  classical
  obtain ⟨i, -, hi⟩ := Finset.exists_max_image (Finset.univ : Finset (Fin 32)) s ⟨0, Finset.mem_univ _⟩
  have hM : (Finset.univ.filter fun i => ∀ j, s j ≤ s i).Nonempty :=
    ⟨i, Finset.mem_filter.2 ⟨Finset.mem_univ _, fun j => hi j (Finset.mem_univ _)⟩⟩
  have hmem := (Finset.mem_filter.1 (Finset.min'_mem _ hM)).2
  exact ⟨Finset.min' _ hM, hmem, fun j hj =>
    Finset.min'_le _ _ (Finset.mem_filter.2 ⟨Finset.mem_univ _, fun k => (hmem k).trans hj⟩)⟩

/-- The least best tag. -/
def best (s : Fin 32 → EReal) : Fin 32 := Classical.choose (exists_best s)

/-- The chosen tag is the least best one. -/
theorem best_spec (s : Fin 32 → EReal) : IsBest s (best s) := Classical.choose_spec (exists_best s)

/-- A tag as the 32-bit word both programs write. -/
def word (i : Fin 32) : BitVec 32 := BitVec.ofNat 32 i.val

/-- A tag's word, unsigned, is the tag. -/
theorem word_toNat (i : Fin 32) : (word i).toNat = i.val := by
  rw [word, BitVec.toNat_ofNat]; exact Nat.mod_eq_of_lt (by omega)

/-- A tag's word, signed, is the tag. -/
theorem word_toInt (i : Fin 32) : (word i).toInt = i.val := by
  rw [BitVec.toInt_eq_toNat_of_lt (by rw [word_toNat]; omega), word_toNat]

/-- Distinct tags have distinct words. -/
theorem word_inj {i j : Fin 32} (h : word i = word j) : i = j :=
  Fin.ext (by rw [← word_toNat i, ← word_toNat j, h])

/-- The pattern of the reductions' initial value denotes the least extended real. -/
theorem ofBits_bot : Ideal.ofBits .f32 0xFF800000#32 = (⊥ : EReal) := by
  simp [Ideal.ofBits, Ideal.ieee]

/-- A maximum over the tags is the value at the least best one. -/
theorem fold_max (s : Fin 32 → EReal) :
    Finset.fold max (Ideal.ofBits .f32 0xFF800000#32) s Finset.univ = s (best s) := by
  refine le_antisymm ?_ ?_
  · rw [Finset.fold_max_le]
    exact ⟨by rw [ofBits_bot]; exact bot_le, fun i _ => (best_spec s).1 i⟩
  · rw [Finset.le_fold_max]
    exact Or.inr ⟨best s, Finset.mem_univ _, le_rfl⟩

/-- A signed minimum over a set is at most every word met, and is the initial word or one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ⟨h1, h2⟩
  rw [Finset.fold_insert has]
  have hm := SortNet.toInt_minsi (g a) (s.fold IntOp.minsi init g)
  refine ⟨fun i hi => ?_, ?_⟩
  · rcases Finset.mem_insert.mp hi with rfl | hi
    · rw [hm]; exact min_le_left _ _
    · exact le_trans (by rw [hm]; exact min_le_right _ _) (h1 i hi)
  · rcases min_choice (g a).toInt (s.fold IntOp.minsi init g).toInt with h | h
    · exact Or.inr ⟨a, Finset.mem_insert_self a s, BitVec.eq_of_toInt_eq (hm.trans h)⟩
    · rcases h2 with h2 | ⟨i, hi, h2⟩
      · exact Or.inl ((BitVec.eq_of_toInt_eq (hm.trans h)).trans h2)
      · exact Or.inr ⟨i, Finset.mem_insert_of_mem hi, (BitVec.eq_of_toInt_eq (hm.trans h)).trans h2⟩

/-- The kernel's argmax: the least of the tags at which the maximum is attained, 32 standing in at the others. -/
theorem fold_argmax (s : Fin 32 → EReal) (m : EReal) (hm : m = s (best s)) :
    Finset.fold IntOp.minsi (2147483647#32) (fun x : Fin 32 => if s x = m then BitVec.ofNat 32 x.val else 32#32)
      Finset.univ = word (best s) := by
  subst hm
  obtain ⟨h1, h2⟩ := fold_minsi_spec (fun x : Fin 32 => if s x = s (best s) then BitVec.ofNat 32 x.val else 32#32)
    Finset.univ (2147483647#32)
  generalize Finset.fold IntOp.minsi (2147483647#32) _ (Finset.univ : Finset (Fin 32)) = R at h1 h2 ⊢
  have hb := h1 (best s) (Finset.mem_univ _)
  rw [if_pos rfl] at hb
  change R.toInt ≤ (word (best s)).toInt at hb
  rw [word_toInt] at hb
  have hlt := (best s).isLt
  rcases h2 with rfl | ⟨i, -, rfl⟩
  · have : (2147483647#32 : BitVec 32).toInt = 2147483647 := by decide
    omega
  · by_cases hi : s i = s (best s)
    · rw [if_pos hi] at hb ⊢
      change (word i).toInt ≤ _ at hb
      rw [word_toInt] at hb
      exact congrArg word (le_antisymm (Fin.le_def.2 (by omega)) ((best_spec s).2 i hi.ge))
    · rw [if_neg hi] at hb
      have : (32#32 : BitVec 32).toInt = 32 := by decide
      omega

/-- The kernel's look-up: the maximum over the tags of the words `g`, zero at every tag but `i`. -/
theorem fold_lookup (g : Fin 32 → BitVec 32) (hg : ∀ x, 0 ≤ (g x).toInt) (i : Fin 32) :
    Finset.fold IntOp.maxsi (2147483648#32)
      (fun x : Fin 32 => Scalar.select (IntOp.cmpi .eq (BitVec.ofNat 32 x.val) (word i)) (g x) 0#32) Finset.univ = g i := by
  have hsel (x : Fin 32) : Scalar.select (IntOp.cmpi .eq (BitVec.ofNat 32 x.val) (word i)) (g x) 0#32
      = if x = i then g x else 0#32 := by
    change Scalar.select (IntOp.cmpi .eq (word x) (word i)) (g x) 0#32 = _
    by_cases h : x = i
    · subst h; simp [IntOp.cmpi, Scalar.select]
    · have : word x ≠ word i := fun e => h (word_inj e)
      simp [IntOp.cmpi, Scalar.select, beq_false_of_ne this, h]
  simp only [hsel]
  obtain ⟨-, h1, h2⟩ := SortNet.fold_maxsi_spec (fun x : Fin 32 => if x = i then g x else 0#32) Finset.univ (2147483648#32)
  generalize Finset.fold IntOp.maxsi (2147483648#32) _ (Finset.univ : Finset (Fin 32)) = R at h1 h2 ⊢
  have hi := h1 i (Finset.mem_univ _)
  rw [if_pos rfl] at hi
  have hg' := hg i
  rcases h2 with rfl | ⟨x, -, rfl⟩
  · have : (2147483648#32 : BitVec 32).toInt = -2147483648 := by decide
    omega
  · by_cases hx : x = i
    · subst hx; rw [if_pos rfl]
    · rw [if_neg hx] at hi ⊢
      refine BitVec.eq_of_toInt_eq ?_
      have : (0#32 : BitVec 32).toInt = 0 := by decide
      omega

/-! ## The decoding -/

variable (f : Fin 64 → Fin 512 → Fin 32 → EReal) (t : Fin 32 → Fin 32 → EReal)

/-- The score at step `k + 1` of going from each tag to tag `j` in sequence `b`, over the forward values `p`. -/
def score (p : Fin 32 → Fin 64 → EReal) (k : ℕ) (b : Fin 64) (j : Fin 32) : Fin 32 → EReal :=
  fun i => f b (Fin.ofNat 512 (k + 1)) j + t i j + p i b

/-- The forward values after `k` steps: the features plus the transitions out of the start tag, then one maximum per step. -/
def fwd : ℕ → Fin 32 → Fin 64 → EReal
  | 0 => fun j b => f b 0 j + t 30 j
  | k + 1 => fun j b => score f t (fwd k) k b j (best (score f t (fwd k) k b j))

/-- The back pointers of step `k + 1`: the best previous tag of tag `j` in sequence `b`. -/
def back (k : ℕ) (b : Fin 64) (j : Fin 32) : Fin 32 := best (score f t (fwd f t k) k b j)

/-- The tag after `k` backward steps: the best last tag, then one look-up of the back pointers per step. -/
def ptr : ℕ → Fin 64 → Fin 32
  | 0 => fun b => best fun i => fwd f t 511 i b + t i 31
  | k + 1 => fun b => back f t (510 - k) b (ptr k b)

/-- The decoded tag of sequence `b` at place `s`. -/
def decoded (b : Fin 64) (s : Fin 512) : BitVec 32 := word (ptr f t (511 - s.val) b)

end Cert.Viterbi
-- ==== Proof.KValue.lean ====
/-
  The kernel's result at extended reals. The body's payloads are read at an index; so the forward values it carries, the
  back pointers it stores and the tags it carries backwards are the decoding's, and the result of the call is the decoded
  tag of each sequence at each place.
-/
module

public import proofs.«01_k».proof.Proof.KBody
public import proofs.«01_k».proof.Proof.Spec

@[expose] public section

noncomputable section

namespace Cert.KernelIdeal.Own

open Cert.KernelIdeal Cert.KernelIdeal.Gen Cert.Viterbi
open Idealize.ShloMosaic

/-- The first forward values: the features' first row plus the transitions out of the start tag. -/
theorem pay1_at (v1 : Vec Ideal S32x32 .f32) (v6 : Vec Ideal S1x32x64 .f32) (j : Fin 32) (b : Fin 64) :
    k0_pay1 v1 v6 (ix2 j b) = v6 (ix3 0 j b) + v1 (ix2 j 30) := by
  pointwise [k0_pay1]

/-- A forward step: the best score over the previous tags. -/
theorem pay3_at (v0 : Vec Ideal S32x32 .f32) (p : FVec Ideal S32x64 .f32) (v6 : Vec Ideal S1x32x64 .f32) (j : Fin 32) (b : Fin 64)
    (s : Fin 32 → EReal) (hs : ∀ i, v6 (ix3 0 j b) + v0 (ix2 i j) + p (ix2 i b) = s i) :
    k0_pay3 v0 p v6 (ix2 j b) = s (best s) := by
  pointwise [k0_pay3, k0_pay2]
  rw [funext hs, fold_max]

/-- A forward step's back pointer: the least best previous tag. -/
theorem pay4_at (v0 : Vec Ideal S32x32 .f32) (p : FVec Ideal S32x64 .f32) (v6 : Vec Ideal S1x32x64 .f32) (j : Fin 32) (b : Fin 64)
    (s : Fin 32 → EReal) (hs : ∀ i, v6 (ix3 0 j b) + v0 (ix2 i j) + p (ix2 i b) = s i) :
    k0_pay4 v0 p v6 (ix3 0 j b) = word (best s) := by
  pointwise [k0_pay4, k0_pay3, k0_pay2]
  simp only [hs]
  exact fold_argmax s _ (fold_max s)

/-- The last tag: the least best one, the transitions into the stop tag added. -/
theorem pay5_at (v0 : Vec Ideal S32x32 .f32) (p : FVec Ideal S32x64 .f32) (b : Fin 64)
    (s : Fin 32 → EReal) (hs : ∀ i, p (ix2 i b) + v0 (ix2 i 31) = s i) :
    k0_pay5 v0 p (ix2 0 b) = word (best s) := by
  pointwise [k0_pay5]
  simp only [hs]
  exact fold_argmax s _ (fold_max s)

/-- A backward step: the back pointer of the carried tag. -/
theorem pay6_at (v0 : IVec S1x64 32) (p : Vec Ideal S1x32x64 .i32) (b : Fin 64) (i : Fin 32) (hv : v0 (ix2 0 b) = word i)
    (hp : ∀ x, 0 ≤ BitVec.toInt (p (ix3 0 x b))) :
    k0_pay6 (F := Ideal) v0 p (ix2 0 b) = p (ix3 0 i b) := by
  pointwise [k0_pay6]
  rw [hv]
  exact fold_lookup (fun x => p (ix3 0 x b)) hp i

variable (f : Fin 64 → Fin 512 → Fin 32 → EReal) (t : Fin 32 → Fin 32 → EReal)
variable (x0 : Vec Ideal S512x32x64 .f32) (x1 x2 : Vec Ideal S32x32 .f32)
variable (h0 : ∀ (s : Fin 512) (j : Fin 32) (b : Fin 64), x0 (ix3 s j b) = f b s j)
variable (h1 : ∀ i j : Fin 32, x1 (ix2 i j) = t i j) (h2 : ∀ i j : Fin 32, x2 (ix2 j i) = t i j)
include h0 h1 h2

/-- The carried forward values are the decoding's. -/
theorem fwd_at (k : ℕ) (j : Fin 32) (b : Fin 64) : fwd x0 x1 x2 k (ix2 j b) = Viterbi.fwd f t k j b := by
  induction k generalizing j b with
  | zero =>
    rw [fwd, pay1_at, h2]
    exact congrArg (· + t 30 j) (h0 0 j b)
  | succ k ih =>
    rw [fwd, pay3_at x1 _ _ _ _ (score f t (Viterbi.fwd f t k) k b j)]
    · rfl
    · intro i
      rw [h1, ih]
      exact congrArg (· + t i j + _) (h0 (Fin.ofNat 512 (k + 1)) j b)

/-- The stored back pointers are the decoding's. -/
theorem bp_at (k : ℕ) (j : Fin 32) (b : Fin 64) : bp x0 x1 x2 k (ix3 0 j b) = word (back f t k b j) := by
  rw [bp, pay4_at x1 _ _ _ _ (score f t (Viterbi.fwd f t k) k b j)]
  · rfl
  · intro i
    rw [h1, fwd_at f t x0 x1 x2 h0 h1 h2]
    exact congrArg (· + t i j + _) (h0 (Fin.ofNat 512 (k + 1)) j b)

/-- The tags carried backwards are the decoding's. -/
theorem tag_at (k : ℕ) (b : Fin 64) : tag x0 x1 x2 k (ix2 0 b) = word (ptr f t k b) := by
  induction k with
  | zero =>
    rw [tag, pay5_at x1 _ _ (fun i => Viterbi.fwd f t 511 i b + t i 31)]
    · rfl
    · intro i
      rw [h1, fwd_at f t x0 x1 x2 h0 h1 h2]
  | succ k ih =>
    rw [tag, pay6_at _ _ _ (ptr f t k b) ih]
    · exact bp_at f t x0 x1 x2 h0 h1 h2 _ _ b
    · intro x
      have h := bp_at f t x0 x1 x2 h0 h1 h2 (510 - k) x b
      refine le_of_le_of_eq ?_ (congrArg BitVec.toInt h).symm
      rw [word_toInt]; omega

/-- The call's result is the decoded tags. -/
theorem out_at (s : Fin 512) (b : Fin 64) : out x0 x1 x2 (ix2 s b) = decoded f t b s :=
  tag_at f t x0 x1 x2 h0 h1 h2 (511 - s.val) b

end Cert.KernelIdeal.Own
-- ==== Proof.KFinal.lean ====
/-
  What @main's result holds after the kernel's program, at extended reals: the decoded tag of each sequence at each
  place, over the features and the transitions as launched.
-/
module

public import proofs.«01_k».proof.Proof.KRun
public import proofs.«01_k».proof.Proof.KValue
public import Idealize.ShloMosaic.Lib.StableHlo.ReadAt

@[expose] public section

noncomputable section

namespace Cert.KernelIdeal.Own

open Cert.KernelIdeal Cert.KernelIdeal.Gen Cert.Viterbi
open Idealize.ShloMosaic Idealize.ShloMosaic.TcCoe Idealize.ShloMosaic.Tactic
open Idealize.SL.Sem

variable (m : (ℓ : Loc nD τ sig) → Buf (Elt Ideal) ℓ) (ρ : Dev nD → PrngReg)

/-- Each operand's block is its whole array. -/
theorem iblk0_eq (c : Dev nD) (t : Fin cfg0.N) : iblk m c 0 t = V m c main_v0 := by
  have hz : (fun a => win0_0.index t a * main_v0.ty.shape.size a) = fun _ => 0 := funext fun a => Nat.zero_mul _
  exact Memref.read_access_unit_zero (Elt Ideal) main_v0 hz (fun a => by rw [congrFun hz a]; simp) _
/-- The transitions' block is the whole array. -/
theorem iblk1_eq (c : Dev nD) (t : Fin cfg0.N) : iblk m c 1 t = V m c main_arg2 := by
  have hz : (fun a => win0_1.index t a * main_arg2.ty.shape.size a) = fun _ => 0 := funext fun a => Nat.zero_mul _
  exact Memref.read_access_unit_zero (Elt Ideal) main_arg2 hz (fun a => by rw [congrFun hz a]; simp) _
/-- The transposed transitions' block is the whole array. -/
theorem iblk2_eq (c : Dev nD) (t : Fin cfg0.N) : iblk m c 2 t = V m c main_v1 := by
  have hz : (fun a => win0_2.index t a * main_v1.ty.shape.size a) = fun _ => 0 := funext fun a => Nat.zero_mul _
  exact Memref.read_access_unit_zero (Elt Ideal) main_v1 hz (fun a => by rw [congrFun hz a]; simp) _

/-- The call's result array ends at the body's result over the three arrays. -/
theorem arr_out (c : Dev nD) :
    (dats m 0 c).arrAt 3 cfg0.N = out (F := Ideal) (V m c main_v0) (V m c main_arg2) (V m c main_v1) := by
  rw [show cfg0.N = (t0_0 : Fin cfg0.N).val + 1 from rfl, (dats m 0 c).arrAt_succ 3 t0_0,
    if_pos (show (cfg0.win 3).flush t0_0 = true from rfl)]
  have hz : (fun a => win0_3.index t0_0 a * main_v2.ty.shape.size a) = fun _ => 0 := funext fun a => Nat.zero_mul _
  refine (Memref.write_access_unit_zero_univ (Elt Ideal) main_v2 hz (fun a => by rw [congrFun hz a]; simp) _ _).trans ?_
  show (dats m 0 c).after 3 t0_0 = _
  rw [after0_3, iblk0_eq, iblk1_eq, iblk2_eq]

/-- The features as the program was launched with them: sequence, place, tag. -/
def feats (c : Dev nD) : Fin 64 → Fin 512 → Fin 32 → EReal :=
  fun b s j => (m ((c.tc : Thread nD τ).loc main_arg0) : Vec Ideal S64x512x32 .f32) (ix3 b s j)

/-- The transitions as launched: from, to. -/
def trans (c : Dev nD) : Fin 32 → Fin 32 → EReal :=
  fun i j => (m ((c.tc : Thread nD τ).loc main_arg2) : Vec Ideal S32x32 .f32) (ix2 i j)

/-- The region finds the features transposed, -/
theorem V_v0 (c : Dev nD) (s : Fin 512) (j : Fin 32) (b : Fin 64) :
    (V m c main_v0 : Vec Ideal S512x32x64 .f32) (ix3 s j b) = feats m c b s j := by
  unfold V V0 hostOps0
  after_reads_at
  rfl

/-- the transitions as launched, -/
theorem V_arg2 (c : Dev nD) (i j : Fin 32) : (V m c main_arg2 : Vec Ideal S32x32 .f32) (ix2 i j) = trans m c i j := by
  rw [V_main_arg2]; rfl

/-- and the transitions transposed. -/
theorem V_v1 (c : Dev nD) (i j : Fin 32) :
    (V m c main_v1 : Vec Ideal S32x32 .f32) (ix2 j i) = trans m c i j := by
  unfold V V0 hostOps0
  after_reads_at
  rfl

/-- @main's result is the decoded tags. -/
theorem result_at (c : Dev nD) (b : Fin 64) (s : Fin 512) :
    (Pipeline.afterTail₀ cfgs (dats m) 0 (V0 m) [hostOps1] c main_v3 : Vec Ideal S64x512 .i32) (ix2 b s)
      = decoded (feats m c) (trans m c) b s := by
  unfold Pipeline.afterTail₀ hostOps1
  after_reads_at
  refine (congrFun ((Pipeline.withArrays_arr spec0 launch0.win.arr_inj c (V0 m c) (fun w => (dats m 0 c).arrAt w cfg0.N) 3).trans
    (arr_out m c)) (ix2 s b)).trans ?_
  exact out_at (feats m c) (trans m c) _ _ _ (V_v0 m c) (V_arg2 m c) (V_v1 m c) s b

/-- Every fair execution ends with @main's result holding the decoded tags, the three arguments as launched. -/
theorem run : θ_run defs (onTc (τ := τ) (main (F := Ideal))) ⟨m, fun _ => 0, ρ⟩ (fun r => ∀ c : Dev nD,
      r.2.mem ((c.tc : Thread nD τ).loc main_v3) = (fun j => decoded (feats m c) (trans m c) (j 0) (j 1) : Vec Ideal S64x512 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v3 (Pipeline.mem_restRefs_of main_v3 (by decide) (by decide))).trans
      (funext fun j => (congrArg _ (eq_ix2 (n0 := 64) (n1 := 512) j)).trans (result_at m c (j 0) (j 1))),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).1 1).trans (((dats m 0 c).arrAt_in 1 rfl _).trans ((A_eq m c 1).trans (V_main_arg2 m c)))⟩) (run_main m ρ)

end Cert.KernelIdeal.Own
-- ==== Proof.RefSlices.lean ====
module

public import proofs.«01_k».proof.Proof.RefRun
public import proofs.«01_k».proof.Proof.Spec
public import Idealize.ShloMosaic.Lib.StableHlo.ReadAt
public import Idealize.ShloMosaic.Lib.DynamicIndex

/-! The reference's dynamic slices and updates, read at one element: a row of a stacked tensor at a row number, and a
    stacked tensor with one row replaced. The row number comes as a start function of which only its values are known. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

variable {e : EltTy}

/-- A [511,64,32] tensor with the [1,64,32] block `u` put at row `k`: `u` on row `k`, as it was elsewhere. -/
theorem update3_at (x : Vec Ideal S511x64x32 e) (u : Vec Ideal S1x64x32 e) (st : Fin 3 → Int)
    (h : S511x64x32.Slices (fun _ => 0) S1x64x32) (k : ℕ) (hk : k < 511) (h0 : st 0 = k) (h1 : st 1 = 0) (h2 : st 2 = 0)
    (s : Fin 511) (b : Fin 64) (j : Fin 32) :
    Host.dynamicUpdateSlice x u st h (ix3 s b j) = if s.val = k then u (ix3 0 b j) else x (ix3 s b j) := by
  pointwise
  have c0 (hr) : Host.clampedStart S511x64x32 S1x64x32 hr st 0 = k := Host.clampedStart_of_le hr st 0 k h0 (by show k + 1 ≤ 511; omega)
  have c1 (hr) : Host.clampedStart S511x64x32 S1x64x32 hr st 1 = 0 := Host.clampedStart_of_le hr st 1 0 h1 (by show 0 + 64 ≤ 64; omega)
  have c2 (hr) : Host.clampedStart S511x64x32 S1x64x32 hr st 2 = 0 := Host.clampedStart_of_le hr st 2 0 h2 (by show 0 + 32 ≤ 32; omega)
  simp only [c0, c1, c2]
  by_cases hs : s.val = k
  · rw [dif_pos (by omega), if_pos hs]
    exact congrArg u (congrArg (fun z => ix3 z b j) (Fin.ext (by show s.val - k = 0; omega)))
  · rw [dif_neg (by omega), if_neg hs]

/-- A [511,64] tensor with the [1,64] block `u` put at row `k`: `u` on row `k`, as it was elsewhere. -/
theorem update2_at (x : Vec Ideal S511x64 e) (u : Vec Ideal S1x64 e) (st : Fin 2 → Int)
    (h : S511x64.Slices (fun _ => 0) S1x64) (k : ℕ) (hk : k < 511) (h0 : st 0 = k) (h1 : st 1 = 0)
    (s : Fin 511) (b : Fin 64) :
    Host.dynamicUpdateSlice x u st h (ix2 s b) = if s.val = k then u (ix2 0 b) else x (ix2 s b) := by
  pointwise
  have c0 (hr) : Host.clampedStart S511x64 S1x64 hr st 0 = k := Host.clampedStart_of_le hr st 0 k h0 (by show k + 1 ≤ 511; omega)
  have c1 (hr) : Host.clampedStart S511x64 S1x64 hr st 1 = 0 := Host.clampedStart_of_le hr st 1 0 h1 (by show 0 + 64 ≤ 64; omega)
  simp only [c0, c1]
  by_cases hs : s.val = k
  · rw [dif_pos (by omega), if_pos hs]
    exact congrArg u (congrArg (fun z => ix2 z b) (Fin.ext (by show s.val - k = 0; omega)))
  · rw [dif_neg (by omega), if_neg hs]

/-- Row `k` of a [511,64,32,32] tensor, its leading axis dropped. -/
theorem row4_at (x : Vec Ideal S511x64x32x32 e) (st : Fin 4 → Int) (h : S511x64x32x32.Slices (fun _ => 0) S1x64x32x32)
    (hc : S1x64x32x32.numel = S64x32x32.numel) (k : ℕ) (hk : k < 511) (h0 : st 0 = k) (h1 : st 1 = 0) (h2 : st 2 = 0) (h3 : st 3 = 0)
    (b : Fin 64) (i j : Fin 32) :
    shapeCast S64x32x32 (Host.dynamicSlice S1x64x32x32 x st h) hc (ix3 b i j) = x (ix4 ⟨k, hk⟩ b i j) := by
  rw [Host.dynamicSlice_eq_extractStridedSlice S1x64x32x32 x st ![k, 0, 0, 0] h
    ⟨rfl, by intro a; fin_cases a; exacts [by show k + 1 ≤ 511; omega, by show 0 + 64 ≤ 64; omega, by show 0 + 32 ≤ 32; omega, by show 0 + 32 ≤ 32; omega]⟩
    (by intro a; fin_cases a; exacts [h0, h1, h2, h3])]
  pointwise

/-- Row `k` of a [511,64,32] tensor, its leading axis dropped. -/
theorem row3_at (x : Vec Ideal S511x64x32 e) (st : Fin 3 → Int) (h : S511x64x32.Slices (fun _ => 0) S1x64x32)
    (hc : S1x64x32.numel = S64x32.numel) (k : ℕ) (hk : k < 511) (h0 : st 0 = k) (h1 : st 1 = 0) (h2 : st 2 = 0)
    (b : Fin 64) (j : Fin 32) :
    shapeCast S64x32 (Host.dynamicSlice S1x64x32 x st h) hc (ix2 b j) = x (ix3 ⟨k, hk⟩ b j) := by
  rw [Host.dynamicSlice_eq_extractStridedSlice S1x64x32 x st ![k, 0, 0] h
    ⟨rfl, by intro a; fin_cases a; exacts [by show k + 1 ≤ 511; omega, by show 0 + 64 ≤ 64; omega, by show 0 + 32 ≤ 32; omega]⟩
    (by intro a; fin_cases a; exacts [h0, h1, h2])]
  pointwise

/-- Row `k` of a [511,64] tensor, its leading axis dropped. -/
theorem row2_at (x : Vec Ideal S511x64 e) (st : Fin 2 → Int) (h : S511x64.Slices (fun _ => 0) S1x64)
    (hc : S1x64.numel = S64.numel) (k : ℕ) (hk : k < 511) (h0 : st 0 = k) (h1 : st 1 = 0) (b : Fin 64) :
    shapeCast S64 (Host.dynamicSlice S1x64 x st h) hc (ix1 b) = x (ix2 ⟨k, hk⟩ b) := by
  rw [Host.dynamicSlice_eq_extractStridedSlice S1x64 x st ![k, 0] h
    ⟨rfl, by intro a; fin_cases a; exacts [by show k + 1 ≤ 511; omega, by show 0 + 64 ≤ 64; omega]⟩
    (by intro a; fin_cases a; exacts [h0, h1])]
  pointwise

end Cert.ReferenceIdeal.Own
-- ==== Proof.RefGathers.lean ====
module

public import proofs.«01_k».proof.Proof.RefRun
public import proofs.«01_k».proof.Proof.Spec
public import Idealize.ShloMosaic.Lib.Pointwise
public import Idealize.ShloMosaic.Lib.Routing.OpsPair

/-! The reference's two gathers and its scatter, read at one element: a look-up along the middle axis, a look-up along the
    last axis, and a write that reaches the rows its index words name and no other. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic

variable {α : Type}

/-- The look-up along the last axis of a [64,32] tensor, at the tag `p` its index word names. -/
theorem gather_tag_at (x : S64x32.Idx → α) (idx : IVec S64x1x1 32) (b : Fin 64) (p : Fin 32) (hp : (idx (ix3 b 0 0)).toInt = p.val) :
    Host.gather gather_S64x32_S64x1x1_S64x1_n_1_0_0_1_2_11 x idx (ix2 b 0) = x (ix2 b p) := by
  unfold Host.gather
  congr 1
  funext a
  refine Fin.ext ?_
  fin_cases a
  · show 0 + b.val + 0 = b.val
    omega
  · show gather_S64x32_S64x1x1_S64x1_n_1_0_0_1_2_11.start (ix2 b 0) idx 1 + 0 + 0 = p.val
    unfold GatherDims.start
    rw [dif_pos (by decide)]
    have hs : gather_S64x32_S64x1x1_S64x1_n_1_0_0_1_2_11.siIdx (ix2 b 0) ⟨0, by decide⟩ = ix3 b 0 0 := by
      funext d; refine Fin.ext ?_
      fin_cases d <;> rfl
    change min (idx (gather_S64x32_S64x1x1_S64x1_n_1_0_0_1_2_11.siIdx (ix2 b 0) ⟨0, by decide⟩)).toInt.toNat 31 + 0 + 0 = p.val
    rw [hs, hp]
    omega

/-- The look-up along the middle axis of a [64,512,32] tensor, at the row `p` its index word names. -/
theorem gather_row_at (x : S64x512x32.Idx → α) (idx : IVec S64x1x1 32) (b : Fin 64) (j : Fin 32) (p : Fin 512)
    (hp : (idx (ix3 b 0 0)).toInt = p.val) :
    Host.gather gather_S64x512x32_S64x1x1_S64x1x32_2_1_0_0_1_2_1132 x idx (ix3 b 0 j) = x (ix3 b p j) := by
  unfold Host.gather
  congr 1
  funext a
  refine Fin.ext ?_
  fin_cases a
  · show 0 + b.val + 0 = b.val
    omega
  · show gather_S64x512x32_S64x1x1_S64x1x32_2_1_0_0_1_2_1132.start (ix3 b 0 j) idx 1 + 0 + 0 = p.val
    unfold GatherDims.start
    rw [dif_pos (by decide)]
    have hs : gather_S64x512x32_S64x1x1_S64x1x32_2_1_0_0_1_2_1132.siIdx (ix3 b 0 j) ⟨0, by decide⟩ = ix3 b 0 0 := by
      funext d; refine Fin.ext ?_
      fin_cases d <;> rfl
    change min (idx (gather_S64x512x32_S64x1x1_S64x1x32_2_1_0_0_1_2_1132.siIdx (ix3 b 0 j) ⟨0, by decide⟩)).toInt.toNat 511 + 0 + 0 = p.val
    rw [hs, hp]
    omega
  · show 0 + 0 + j.val = j.val
    omega

/-- The write leaves a row alone that no index word names. -/
theorem scatter_row_ne (x : S64x512x32.Idx → α) (idx : IVec S64x32x3 32) (upd : S64x32.Idx → α) (b : Fin 64) (s : Fin 512) (j : Fin 32)
    (h : ∀ (c : Fin 64) (i : Fin 32), (idx (ix3 c i 1)).toInt ≠ s.val) :
    Host.scatter scatter_S64x512x32_S64x32x3_S64x32_n_012_012_2 (fun _ v => v) x idx upd (ix3 b s j) = x (ix3 b s j) := by
  rw [Routing.scatter_at]
  have hne (k : S64x32.Idx) : scatter_S64x512x32_S64x32x3_S64x32_n_012_012_2.resultIdx? k idx ≠ some (ix3 b s j) := by
    obtain ⟨c, i, rfl⟩ : ∃ (c : Fin 64) (i : Fin 32), k = ix2 c i := ⟨k 0, k 1, eq_ix2 k⟩
    rw [Ne, Routing.resultIdx?_eq_some]
    intro hall
    have h1 := hall 1
    change scatter_S64x512x32_S64x32x3_S64x32_n_012_012_2.start (ix2 c i) idx 1 + 0 = (s.val : Int) at h1
    unfold ScatterDims.start at h1
    rw [dif_pos (by decide)] at h1
    have hs : scatter_S64x512x32_S64x32x3_S64x32_n_012_012_2.siIdx (ix2 c i) ⟨1, by decide⟩ = ix3 c i 1 := by
      funext d; refine Fin.ext ?_
      fin_cases d <;> rfl
    change (idx (scatter_S64x512x32_S64x32x3_S64x32_n_012_012_2.siIdx (ix2 c i) ⟨1, by decide⟩)).toInt + 0 = (s.val : Int) at h1
    rw [hs] at h1
    exact h c i (by omega)
  generalize x (ix3 b s j) = a
  generalize List.finRange S64x32.numel = l
  induction l with
  | nil => rfl
  | cons n l ih => rw [List.foldl_cons, if_neg (hne _), ih]

end Cert.ReferenceIdeal.Own
-- ==== Proof.RefBodyB.lean ====
module

public import proofs.«01_k».proof.Proof.RefSlices
public import proofs.«01_k».proof.Proof.RefGathers

/-! The pieces of the reference's backward loop body, each read at one element from the contents before it. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

/-- The wrap of a negative index leaves a tag's word as it is. -/
theorem wrap_word (p : Fin 32) (a : BitVec 32) : Scalar.select (IntOp.cmpi .slt (word p) 0#32) a (word p) = word p := by
  have h : ∀ p : Fin 32, IntOp.cmpi .slt (word p) 0#32 = 0#1 := by decide
  rw [h p]
  rfl

/-- A tag's word is in the range of the tags. -/
theorem range_word (p : Fin 32) : IntOp.andi (IntOp.cmpi .sge (word p) 0#32) (IntOp.cmpi .sle (word p) 31#32) = 1#1 := by
  revert p
  decide

variable (Y : Valuation τ sig (Elt Ideal)) (k : ℕ)

/-- The first piece reads row `k` of the reversed pointers. -/
theorem bB0_at (hk : k < 511) (hc : Y (Proc.devRef .tc main_v71_1) = fun _ => BitVec.ofNat 32 k) (b : Fin 64) (j : Fin 32) :
    (after bB0 Y (Proc.devRef .tc main_while1b_v76) : Vec Ideal S64x32 .i32) (ix2 b j)
      = (Y (Proc.devRef .tc main_v71_0) : Vec Ideal S511x64x32 .i32) (ix3 ⟨k, hk⟩ b j) := by
  after_reads_simp
  refine row3_at (e := .i32) (Y (Proc.devRef .tc main_v71_0) : Vec Ideal S511x64x32 .i32) _ sliceFits_S511x64x32_S1x64x32
    shapeCasts_S1x64x32_S64x32 k hk ?_ ?_ ?_ b j
  · show BitVec.toInt ((upto bB0 Y 2 (Proc.devRef .tc main_v71_1) : Vec Ideal S_ .i32) (Shape.Idx.first h_S_)) = _
    after_reads_simp
    rw [hc]
    exact toInt_ofNat_of_lt (by omega)
  · show BitVec.toInt ((upto bB0 Y 2 (Proc.devRef .tc main_while1b_call8_c) : Vec Ideal S_ .i32) (Shape.Idx.first h_S_)) = _
    after_reads_simp
    rfl
  · show BitVec.toInt ((upto bB0 Y 2 (Proc.devRef .tc main_while1b_call8_c_0) : Vec Ideal S_ .i32) (Shape.Idx.first h_S_)) = _
    after_reads_simp
    rfl

/-- The second piece is the current tags as a column. -/
theorem bB1_at (b : Fin 64) :
    (after bB1 Y (Proc.devRef .tc main_while1b_v77) : Vec Ideal S64x1 .i32) (ix2 b 0)
      = (Y (Proc.devRef .tc main_v71_2) : Vec Ideal S64 .i32) (ix1 b) := by
  after_reads_at

/-- The third piece looks the current tag up in the pointers' row. -/
theorem bB2_at (b : Fin 64) (p : Fin 32)
    (hp : (Y (Proc.devRef .tc main_while1b_v77) : Vec Ideal S64x1 .i32) (ix2 b 0) = word p) :
    (after bB2 Y (Proc.devRef .tc main_while1b_v78) : Vec Ideal S64x1 .i32) (ix2 b 0)
      = (Y (Proc.devRef .tc main_while1b_v76) : Vec Ideal S64x32 .i32) (ix2 b p) := by
  after_reads_at
  rw [hp, wrap_word, range_word]
  rw [gather_tag_at _ _ b p (by
    show BitVec.toInt (Scalar.select (IntOp.cmpi .slt ((Y (Proc.devRef .tc main_while1b_v77) : Vec Ideal S64x1 .i32) (ix2 b 0)) 0#32) _
      ((Y (Proc.devRef .tc main_while1b_v77) : Vec Ideal S64x1 .i32) (ix2 b 0))) = _
    rw [hp, wrap_word, word_toInt])]
  rfl

/-- The fourth piece drops the column's second axis. -/
theorem bB3_at (b : Fin 64) :
    (after bB3 Y (Proc.devRef .tc main_while1b_v79) : Vec Ideal S64 .i32) (ix1 b)
      = (Y (Proc.devRef .tc main_while1b_v78) : Vec Ideal S64x1 .i32) (ix2 b 0) := by
  after_reads_at

/-- The fifth piece puts the new tags at row `k` of the decoded tags. -/
theorem bB4_at (hk : k < 511) (hc : Y (Proc.devRef .tc main_v71_1) = fun _ => BitVec.ofNat 32 k) (s : Fin 511) (b : Fin 64) :
    (after bB4 Y (Proc.devRef .tc main_while1b_v80) : Vec Ideal S511x64 .i32) (ix2 s b)
      = if s.val = k then (Y (Proc.devRef .tc main_while1b_v79) : Vec Ideal S64 .i32) (ix1 b) else
        (Y (Proc.devRef .tc main_v71_3) : Vec Ideal S511x64 .i32) (ix2 s b) := by
  after_reads_simp
  refine (update2_at (e := .i32) (Y (Proc.devRef .tc main_v71_3) : Vec Ideal S511x64 .i32) _ _
    updateFits_S511x64_S1x64 k hk ?_ ?_ s b).trans ?_
  · show BitVec.toInt ((upto bB4 Y 2 (Proc.devRef .tc main_v71_1) : Vec Ideal S_ .i32) (Shape.Idx.first h_S_)) = _
    after_reads_simp
    rw [hc]
    exact toInt_ofNat_of_lt (by omega)
  · show BitVec.toInt ((upto bB4 Y 2 (Proc.devRef .tc main_while1b_call10_c) : Vec Ideal S_ .i32) (Shape.Idx.first h_S_)) = _
    after_reads_simp
    rfl
  refine if_congr Iff.rfl ?_ rfl
  show broadcastInDim S1x64 ![1] bcast_S64_S1x64_1 (Y (Proc.devRef .tc main_while1b_v79) : Vec Ideal S64 .i32) (ix2 0 b) = _
  pointwise

/-- The last piece carries the new tags and the decoded ones over to the next trip. -/
theorem bB5_at : (after bB5 Y (Proc.devRef .tc main_v71_2) = Y (Proc.devRef .tc main_while1b_v79))
    ∧ after bB5 Y (Proc.devRef .tc main_v71_3) = Y (Proc.devRef .tc main_while1b_v80) := by
  refine ⟨?_, ?_⟩ <;> after_reads_simp <;> rfl

end Cert.ReferenceIdeal.Own
-- ==== Proof.RefArgmax.lean ====
module

public import proofs.«01_k».proof.Proof.RefRun
public import proofs.«01_k».proof.Proof.Spec
public import Idealize.ShloMosaic.Lib.Pointwise

/-! The reference's two-operand argmax at extended reals: whatever the order in which the pairs are combined, the tag that
    comes out is the least one at which the value is largest. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic

/-- The pair `p` is at least as good as `q`: its value is larger, or the values agree and its tag is no later. -/
def Beats (p q : EReal × BitVec 32) : Prop := q.1 < p.1 ∨ (p.1 = q.1 ∧ p.2.toInt ≤ q.2.toInt)

/-- Every pair is as good as itself. -/
theorem Beats.refl (p : EReal × BitVec 32) : Beats p p := Or.inr ⟨rfl, le_rfl⟩

/-- Being at least as good is transitive. -/
theorem Beats.trans {p q r : EReal × BitVec 32} (h : Beats p q) (h' : Beats q r) : Beats p r := by
  rcases h with h | ⟨h1, h2⟩ <;> rcases h' with h' | ⟨h3, h4⟩
  · exact Or.inl (h'.trans h)
  · exact Or.inl (h3 ▸ h)
  · exact Or.inl (h1 ▸ h')
  · exact Or.inr ⟨h1.trans h3, h2.trans h4⟩

/-- The reducer returns one of its two pairs, and that one is at least as good as both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  rcases lt_trichotomy x y with h | h | h
  · have e : reducer_argmax_f32_i32 (F := Ideal) (x, i) (y, j) = (y, j) := by
      simp [reducer_argmax_f32_i32, Ideal.cmpf_def, Ideal.cmp, h.not_gt, h.ne, IntOp.ori, IntOp.andi, Scalar.select]
    rw [e]
    exact ⟨Or.inr rfl, Or.inl h, Beats.refl _⟩
  · subst h
    by_cases hij : i.toInt < j.toInt
    · have e : reducer_argmax_f32_i32 (F := Ideal) (x, i) (x, j) = (x, i) := by
        simp [reducer_argmax_f32_i32, Ideal.cmpf_def, Ideal.cmp, IntOp.ori, IntOp.andi, IntOp.cmpi, Scalar.select, BitVec.slt, hij]
      rw [e]
      exact ⟨Or.inl rfl, Beats.refl _, Or.inr ⟨rfl, hij.le⟩⟩
    · have e : reducer_argmax_f32_i32 (F := Ideal) (x, i) (x, j) = (x, j) := by
        simp [reducer_argmax_f32_i32, Ideal.cmpf_def, Ideal.cmp, IntOp.ori, IntOp.andi, IntOp.cmpi, Scalar.select, BitVec.slt, hij]
      rw [e]
      exact ⟨Or.inr rfl, Or.inr ⟨rfl, not_lt.1 hij⟩, Beats.refl _⟩
  · have e : reducer_argmax_f32_i32 (F := Ideal) (x, i) (y, j) = (x, i) := by
      simp [reducer_argmax_f32_i32, Ideal.cmpf_def, Ideal.cmp, h, h.ne', IntOp.ori, IntOp.andi, Scalar.select]
    rw [e]
    exact ⟨Or.inl rfl, Beats.refl _, Or.inl h⟩

/-- A fold of the reducer returns the initial pair or one of the list, at least as good as all of them. -/
theorem foldl_reducer (l : List (EReal × BitVec 32)) (z : EReal × BitVec 32) :
    (l.foldl (reducer_argmax_f32_i32 (F := Ideal)) z = z ∨ l.foldl (reducer_argmax_f32_i32 (F := Ideal)) z ∈ l)
      ∧ Beats (l.foldl (reducer_argmax_f32_i32 (F := Ideal)) z) z
      ∧ ∀ p ∈ l, Beats (l.foldl (reducer_argmax_f32_i32 (F := Ideal)) z) p := by
  induction l generalizing z with
  | nil => exact ⟨Or.inl rfl, Beats.refl _, fun p hp => absurd hp List.not_mem_nil⟩
  | cons a l ih =>
    obtain ⟨h1, h2, h3⟩ := ih (reducer_argmax_f32_i32 (F := Ideal) z a)
    obtain ⟨r1, r2, r3⟩ := reducer_spec z a
    rw [List.foldl_cons]
    refine ⟨?_, h2.trans r2, fun p hp => ?_⟩
    · rcases h1 with h1 | h1
      · rcases r1 with r1 | r1
        · exact Or.inl (h1.trans r1)
        · exact Or.inr (by rw [h1, r1]; exact List.mem_cons_self)
      · exact Or.inr (List.mem_cons_of_mem _ h1)
    · rcases List.mem_cons.1 hp with rfl | hp
      · exact h2.trans r3
      · exact h3 p hp

/-- Dropping the middle axis of a [64,32,32] index keeps the outer two coordinates. -/
theorem drop_mid (h : S64x32x32.ReducesTo [1] S64x32) (b : Fin 64) (i j : Fin 32) : h.drop (ix3 b i j) = ix2 b j := by
  funext d
  fin_cases d
  · exact Fin.ext (h.drop_apply_val_of_eq (ix3 b i j) 0 0)
  · exact Fin.ext (h.drop_apply_val_of_eq (ix3 b i j) 1 2)

/-- The reference's argmax over the middle axis, read at one element, is the least best tag's word. -/
theorem argmax_at (x : Vec Ideal S64x32x32 .f32) (s : Fin 32 → EReal) (b : Fin 64) (j : Fin 32) (hx : ∀ i, x (ix3 b i j) = s i)
    (h : S64x32x32.ReducesTo [1] S64x32) (hu : 0 < S_.numel) :
    (Host.argReduce (F := Ideal) (φ := .f32) reducer_argmax_f32_i32 x (iotaInDim S64x32x32 32 1)
      (constant S_ .f32 0xFF800000#32) (constantI S_ 32 0#32) h hu (ix2 b j)).2 = word (best s) := by
  rw [Ideal.argReduce_eq_reduce2, Host.reduce2_eq_foldl_fiber]
  obtain ⟨h1, h2, h3⟩ := foldl_reducer (Host.argReduceFiber x (iotaInDim S64x32x32 32 1) h (ix2 b j))
    (Ideal.ofBits .f32 0xFF800000#32, 0#32)
  change (List.foldl (reducer_argmax_f32_i32 (F := Ideal)) (Ideal.ofBits .f32 0xFF800000#32, 0#32) _).2 = _
  have hin : (s (best s), word (best s)) ∈ Host.argReduceFiber x (iotaInDim S64x32x32 32 1) h (ix2 b j) := by
    refine List.mem_map.2 ⟨S64x32x32.rowMajor (ix3 b (best s) j), List.mem_filter.2 ⟨List.mem_finRange _, ?_⟩, ?_⟩
    · rw [Equiv.symm_apply_apply, drop_mid, decide_eq_true_eq]
    · rw [Equiv.symm_apply_apply, hx]
      rfl
  have hall (p) (hp : p ∈ Host.argReduceFiber x (iotaInDim S64x32x32 32 1) h (ix2 b j)) : ∃ i, p = (s i, word i) := by
    obtain ⟨n, hn, rfl⟩ := List.mem_map.1 hp
    have hd := of_decide_eq_true (List.mem_filter.1 hn).2
    generalize S64x32x32.rowMajor.symm n = k at hd ⊢
    obtain ⟨a, i, c, rfl⟩ : ∃ (a : Fin 64) (i c : Fin 32), k = ix3 a i c := ⟨k 0, k 1, k 2, eq_ix3 k⟩
    rw [drop_mid] at hd
    obtain rfl : a = b := congrFun hd 0
    obtain rfl : c = j := congrFun hd 1
    rw [hx]
    exact ⟨i, rfl⟩
  have hb := h3 _ hin
  generalize List.foldl (reducer_argmax_f32_i32 (F := Ideal)) _ _ = r at h1 hb ⊢
  obtain ⟨hmax, hleast⟩ := best_spec s
  rcases h1 with rfl | h1
  · rw [ofBits_bot] at hb
    rcases hb with hb | ⟨hb, -⟩
    · exact absurd hb not_lt_bot
    · change ⊥ = s (best s) at hb
      have h0 : best s ≤ 0 := hleast 0 (by rw [← hb]; exact bot_le)
      rw [show best s = 0 from le_antisymm h0 (Fin.zero_le _)]
      rfl
  · obtain ⟨i, rfl⟩ := hall r h1
    rcases hb with hb | ⟨hb, hb'⟩
    · exact absurd hb (hmax i).not_gt
    · change (word i).toInt ≤ (word (best s)).toInt at hb'
      rw [word_toInt, word_toInt] at hb'
      have : best s ≤ i := hleast i (by rw [show s i = s (best s) from hb])
      exact congrArg word (le_antisymm (Fin.le_def.2 (by omega)) this)

end Cert.ReferenceIdeal.Own
-- ==== Proof.RefBodyA.lean ====
module

public import proofs.«01_k».proof.Proof.RefSlices
public import proofs.«01_k».proof.Proof.RefArgmax

/-! The pieces of the reference's forward loop body, each read at one element from the contents before it. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

/-- An element of a [64,32,32] tensor, as an extended real. -/
abbrev real3 (x : Vec Ideal S64x32x32 .f32) (b : Fin 64) (i j : Fin 32) : EReal := x (ix3 b i j)

/-- An element of a [64,32] tensor, as an extended real. -/
abbrev real2 (x : Vec Ideal S64x32 .f32) (b : Fin 64) (i : Fin 32) : EReal := x (ix2 b i)

variable (Y : Valuation τ sig (Elt Ideal)) (k : ℕ)

/-- The first piece reads row `k` of the stacked scores. -/
theorem bA0_at (hk : k < 511) (hc : Y (Proc.devRef .tc main_v15_2) = fun _ => BitVec.ofNat 32 k) (b : Fin 64) (i j : Fin 32) :
    (after bA0 Y (Proc.devRef .tc main_while0b_v76) : Vec Ideal S64x32x32 .f32) (ix3 b i j)
      = (Y (Proc.devRef .tc main_v15_0) : Vec Ideal S511x64x32x32 .f32) (ix4 ⟨k, hk⟩ b i j) := by
  after_reads_simp
  refine row4_at (e := .f32) (Y (Proc.devRef .tc main_v15_0) : Vec Ideal S511x64x32x32 .f32) _ sliceFits_S511x64x32x32_S1x64x32x32
    shapeCasts_S1x64x32x32_S64x32x32 k hk ?_ ?_ ?_ ?_ b i j
  · show BitVec.toInt ((upto bA0 Y 3 (Proc.devRef .tc main_v15_2) : Vec Ideal S_ .i32) (Shape.Idx.first h_S_)) = _
    after_reads_simp
    rw [hc]
    exact toInt_ofNat_of_lt (by omega)
  · show BitVec.toInt ((upto bA0 Y 3 (Proc.devRef .tc main_while0b_call0_c) : Vec Ideal S_ .i32) (Shape.Idx.first h_S_)) = _
    after_reads_simp
    rfl
  · show BitVec.toInt ((upto bA0 Y 3 (Proc.devRef .tc main_while0b_call0_c_0) : Vec Ideal S_ .i32) (Shape.Idx.first h_S_)) = _
    after_reads_simp
    rfl
  · show BitVec.toInt ((upto bA0 Y 3 (Proc.devRef .tc main_while0b_call0_c_1) : Vec Ideal S_ .i32) (Shape.Idx.first h_S_)) = _
    after_reads_simp
    rfl

/-- The second piece reads row `k` of the mask's transpose. -/
theorem bA1_at (hk : k < 511) (hc : Y (Proc.devRef .tc main_v15_2) = fun _ => BitVec.ofNat 32 k) (b : Fin 64) :
    (after bA1 Y (Proc.devRef .tc main_while0b_v77) : Vec Ideal S64 .i1) (ix1 b)
      = (Y (Proc.devRef .tc main_v15_1) : Vec Ideal S511x64 .i1) (ix2 ⟨k, hk⟩ b) := by
  after_reads_simp
  refine row2_at (e := .i1) (Y (Proc.devRef .tc main_v15_1) : Vec Ideal S511x64 .i1) _ sliceFits_S511x64_S1x64
    shapeCasts_S1x64_S64 k hk ?_ ?_ b
  · show BitVec.toInt ((upto bA1 Y 1 (Proc.devRef .tc main_v15_2) : Vec Ideal S_ .i32) (Shape.Idx.first h_S_)) = _
    after_reads_simp
    rw [hc]
    exact toInt_ofNat_of_lt (by omega)
  · show BitVec.toInt ((upto bA1 Y 1 (Proc.devRef .tc main_while0b_call1_c) : Vec Ideal S_ .i32) (Shape.Idx.first h_S_)) = _
    after_reads_simp
    rfl

/-- The third piece adds the previous row's value of the earlier tag, broadcast over the later one. -/
theorem bA2_sum_at (b : Fin 64) (i j : Fin 32) :
    (after bA2 Y (Proc.devRef .tc main_while0b_v80) : Vec Ideal S64x32x32 .f32) (ix3 b i j)
      = real3 (Y (Proc.devRef .tc main_while0b_v76)) b i j
        + real2 (Y (Proc.devRef .tc main_v15_3)) b i := by
  after_reads_at

/-- The third piece's maximum over the earlier tag is the value at the least best one. -/
theorem bA2_max_at (s : Fin 32 → EReal) (b : Fin 64) (j : Fin 32)
    (hs : ∀ i, real3 (Y (Proc.devRef .tc main_while0b_v76)) b i j
        + real2 (Y (Proc.devRef .tc main_v15_3)) b i = s i) :
    (after bA2 Y (Proc.devRef .tc main_while0b_v81) : Vec Ideal S64x32 .f32) (ix2 b j) = s (best s) := by
  rw [← fold_max s, ← funext hs]
  after_reads_at

/-- The fourth piece's argmax is the least best tag's word. -/
theorem bA3_at (s : Fin 32 → EReal) (b : Fin 64) (j : Fin 32)
    (hs : ∀ i, (Y (Proc.devRef .tc main_while0b_v80) : Vec Ideal S64x32x32 .f32) (ix3 b i j) = s i) :
    (after bA3 Y (Proc.devRef .tc main_while0b_v82) : Vec Ideal S64x32 .i32) (ix2 b j) = word (best s) := by
  refine Eq.trans ?_ (argmax_at (Y (Proc.devRef .tc main_while0b_v80) : Vec Ideal S64x32x32 .f32) s b j hs
    reducesTo_S64x32x32_S64x32_d1 h_S_)
  after_reads_at

/-- Where the mask's row is set, the fifth and sixth pieces keep the argmax. -/
theorem bA45_at (b : Fin 64) (j : Fin 32)
    (hm : (Y (Proc.devRef .tc main_while0b_v77) : Vec Ideal S64 .i1) (ix1 b) = 1#1) :
    (after bA5 (after bA4 Y) (Proc.devRef .tc main_while0b_v84) : Vec Ideal S64x32 .i32) (ix2 b j)
      = (Y (Proc.devRef .tc main_while0b_v82) : Vec Ideal S64x32 .i32) (ix2 b j) := by
  after_reads_at
  rw [hm]
  rfl

/-- The seventh piece puts the maxima at row `k` of the history. -/
theorem bA6_at (hk : k < 511) (hc : Y (Proc.devRef .tc main_v15_2) = fun _ => BitVec.ofNat 32 k)
    (s : Fin 511) (b : Fin 64) (j : Fin 32) :
    (after bA6 Y (Proc.devRef .tc main_while0b_v85) : Vec Ideal S511x64x32 .f32) (ix3 s b j)
      = if s.val = k then (Y (Proc.devRef .tc main_while0b_v81) : Vec Ideal S64x32 .f32) (ix2 b j) else
        (Y (Proc.devRef .tc main_v15_4) : Vec Ideal S511x64x32 .f32) (ix3 s b j) := by
  after_reads_simp
  refine (update3_at (e := .f32) (Y (Proc.devRef .tc main_v15_4) : Vec Ideal S511x64x32 .f32) _ _
    updateFits_S511x64x32_S1x64x32 k hk ?_ ?_ ?_ s b j).trans ?_
  · show BitVec.toInt ((upto bA6 Y 3 (Proc.devRef .tc main_v15_2) : Vec Ideal S_ .i32) (Shape.Idx.first h_S_)) = _
    after_reads_simp
    rw [hc]
    exact toInt_ofNat_of_lt (by omega)
  · show BitVec.toInt ((upto bA6 Y 3 (Proc.devRef .tc main_while0b_call4_c) : Vec Ideal S_ .i32) (Shape.Idx.first h_S_)) = _
    after_reads_simp
    rfl
  · show BitVec.toInt ((upto bA6 Y 3 (Proc.devRef .tc main_while0b_call4_c_0) : Vec Ideal S_ .i32) (Shape.Idx.first h_S_)) = _
    after_reads_simp
    rfl
  refine if_congr Iff.rfl ?_ rfl
  show broadcastInDim S1x64x32 ![1, 2] bcast_S64x32_S1x64x32_1_2
    (Y (Proc.devRef .tc main_while0b_v81) : Vec Ideal S64x32 .f32) (ix3 0 b j) = _
  pointwise

/-- The eighth piece puts the best earlier tags at row `k` of the pointers. -/
theorem bA7_at (hk : k < 511) (hc : Y (Proc.devRef .tc main_v15_2) = fun _ => BitVec.ofNat 32 k)
    (s : Fin 511) (b : Fin 64) (j : Fin 32) :
    (after bA7 Y (Proc.devRef .tc main_while0b_v86) : Vec Ideal S511x64x32 .i32) (ix3 s b j)
      = if s.val = k then (Y (Proc.devRef .tc main_while0b_v84) : Vec Ideal S64x32 .i32) (ix2 b j) else
        (Y (Proc.devRef .tc main_v15_5) : Vec Ideal S511x64x32 .i32) (ix3 s b j) := by
  after_reads_simp
  refine (update3_at (e := .i32) (Y (Proc.devRef .tc main_v15_5) : Vec Ideal S511x64x32 .i32) _ _
    updateFits_S511x64x32_S1x64x32 k hk ?_ ?_ ?_ s b j).trans ?_
  · show BitVec.toInt ((upto bA7 Y 3 (Proc.devRef .tc main_v15_2) : Vec Ideal S_ .i32) (Shape.Idx.first h_S_)) = _
    after_reads_simp
    rw [hc]
    exact toInt_ofNat_of_lt (by omega)
  · show BitVec.toInt ((upto bA7 Y 3 (Proc.devRef .tc main_while0b_call5_c) : Vec Ideal S_ .i32) (Shape.Idx.first h_S_)) = _
    after_reads_simp
    rfl
  · show BitVec.toInt ((upto bA7 Y 3 (Proc.devRef .tc main_while0b_call5_c_0) : Vec Ideal S_ .i32) (Shape.Idx.first h_S_)) = _
    after_reads_simp
    rfl
  refine if_congr Iff.rfl ?_ rfl
  show broadcastInDim S1x64x32 ![1, 2] bcast_S64x32_S1x64x32_1_2
    (Y (Proc.devRef .tc main_while0b_v84) : Vec Ideal S64x32 .i32) (ix3 0 b j) = _
  pointwise

/-- The last piece carries the maxima, the history and the pointers over to the next trip. -/
theorem bA8_at : (after bA8 Y (Proc.devRef .tc main_v15_3) = Y (Proc.devRef .tc main_while0b_v81))
    ∧ after bA8 Y (Proc.devRef .tc main_v15_4) = Y (Proc.devRef .tc main_while0b_v85)
    ∧ after bA8 Y (Proc.devRef .tc main_v15_5) = Y (Proc.devRef .tc main_while0b_v86) := by
  refine ⟨?_, ?_, ?_⟩ <;> after_reads_simp <;> rfl

end Cert.ReferenceIdeal.Own
-- ==== Proof.RefLoopA.lean ====
module

public import proofs.«01_k».proof.Proof.RefBodyA

/-! The reference's forward loop: after `k` trips its carried row holds the forward values at `k`, the history and the
    pointers the rows made so far. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

/-- The trip counter at trip `k` is the word of `k`. -/
theorem iv_eq (k : ℕ) : Scf.iv 0#32 1#32 k = BitVec.ofNat 32 k := by
  simp [Scf.iv]

variable (f : Fin 64 → Fin 512 → Fin 32 → EReal) (t : Fin 32 → Fin 32 → EReal)

/-- What the first loop's trips read and leave alone: the stacked scores and a mask that is set everywhere. -/
structure InA (X : Valuation τ sig (Elt Ideal)) : Prop where
  scores : ∀ (s : Fin 511) (b : Fin 64) (i j : Fin 32),
    (X (Proc.devRef .tc main_v15_0) : Vec Ideal S511x64x32x32 .f32) (ix4 s b i j) = f b (Fin.ofNat 512 (s.val + 1)) j + t i j
  mask : ∀ (s : Fin 511) (b : Fin 64), (X (Proc.devRef .tc main_v15_1) : Vec Ideal S511x64 .i1) (ix2 s b) = 1#1

/-- What the first loop has made before trip `k`. -/
structure MadeA (k : ℕ) (X : Valuation τ sig (Elt Ideal)) : Prop where
  row : ∀ (b : Fin 64) (j : Fin 32), (X (Proc.devRef .tc main_v15_3) : Vec Ideal S64x32 .f32) (ix2 b j) = fwd f t k j b
  history : ∀ (s : Fin 511) (b : Fin 64) (j : Fin 32), s.val < k →
    (X (Proc.devRef .tc main_v15_4) : Vec Ideal S511x64x32 .f32) (ix3 s b j) = fwd f t (s.val + 1) j b
  pointers : ∀ (s : Fin 511) (b : Fin 64) (j : Fin 32), s.val < k →
    (X (Proc.devRef .tc main_v15_5) : Vec Ideal S511x64x32 .i32) (ix3 s b j) = word (back f t s.val b j)

variable {f t}

/-- A trip leaves what the loop reads as it was. -/
theorem InA.trip {X : Valuation τ sig (Elt Ideal)} (h : InA f t X) : InA f t (afterL bodyA (after condA X)) := by
  refine ⟨fun s b i j => ?_, fun s b => ?_⟩
  · rw [tripA_keeps (r := main_v15_0) (by decide +kernel)]
    exact h.scores s b i j
  · rw [tripA_keeps (r := main_v15_1) (by decide +kernel)]
    exact h.mask s b

/-- One trip makes the next row. -/
theorem MadeA.trip {X : Valuation τ sig (Elt Ideal)} {k : ℕ} (hk : k < 511) (hc : X (Proc.devRef .tc main_v15_2) = fun _ => BitVec.ofNat 32 k)
    (hin : InA f t X) (h : MadeA f t k X) : MadeA f t (k + 1) (afterL bodyA (after condA X)) := by
  simp only [afterL_cons, afterL_nil]
  -- the row of scores and of the mask
  have c1 : after condA X (Proc.devRef .tc main_v15_2) = fun _ => BitVec.ofNat 32 k := by
    rw [after_of_writes_sub condA _ condA_writes (by decide +kernel), hc]
  have a0 (b : Fin 64) (i j : Fin 32) : real3 (after bA1 (after bA0 (after condA X)) (Proc.devRef .tc main_while0b_v76)) b i j
      = f b (Fin.ofNat 512 (k + 1)) j + t i j := by
    rw [after_of_writes_sub bA1 _ bA1_writes (by decide +kernel)]
    refine (bA0_at _ k hk c1 b i j).trans ?_
    rw [after_of_writes_sub condA _ condA_writes (by decide +kernel)]
    exact hin.scores ⟨k, hk⟩ b i j
  have a1 (b : Fin 64) : (after bA1 (after bA0 (after condA X)) (Proc.devRef .tc main_while0b_v77) : Vec Ideal S64 .i1) (ix1 b) = 1#1 := by
    refine (bA1_at _ k hk (by rw [after_of_writes_sub bA0 _ bA0_writes (by decide +kernel), c1]) b).trans ?_
    rw [after_of_writes_sub bA0 _ bA0_writes (by decide +kernel), after_of_writes_sub condA _ condA_writes (by decide +kernel)]
    exact hin.mask ⟨k, hk⟩ b
  have k1 {r : Ref sig .tc} (h1 : r ∉ bA1_W) (h0 : r ∉ bA0_W) (hC : r ∉ condA_W) :
      after bA1 (after bA0 (after condA X)) (Proc.devRef .tc r) = X (Proc.devRef .tc r) := by
    rw [after_of_writes_sub bA1 _ bA1_writes h1, after_of_writes_sub bA0 _ bA0_writes h0, after_of_writes_sub condA _ condA_writes hC]
  have r1 := k1 (r := main_v15_3) (by decide +kernel) (by decide +kernel) (by decide +kernel)
  have d1 := (k1 (r := main_v15_2) (by decide +kernel) (by decide +kernel) (by decide +kernel)).trans hc
  have p1 := k1 (r := main_v15_4) (by decide +kernel) (by decide +kernel) (by decide +kernel)
  have q1 := k1 (r := main_v15_5) (by decide +kernel) (by decide +kernel) (by decide +kernel)
  generalize after bA1 (after bA0 (after condA X)) = V1 at a0 a1 r1 d1 p1 q1 ⊢
  -- the scores of the earlier tags, their maximum and its least tag
  have s1 (b : Fin 64) (i j : Fin 32) :
      real3 (V1 (Proc.devRef .tc main_while0b_v76)) b i j + real2 (V1 (Proc.devRef .tc main_v15_3)) b i = score f t (fwd f t k) k b j i := by
    rw [a0, r1]
    exact congrArg (f b (Fin.ofNat 512 (k + 1)) j + t i j + ·) (h.row b i)
  have b2 (b : Fin 64) (j : Fin 32) : real2 (after bA2 V1 (Proc.devRef .tc main_while0b_v81)) b j = fwd f t (k + 1) j b :=
    bA2_max_at V1 (score f t (fwd f t k) k b j) b j fun i => s1 b i j
  have b3 (b : Fin 64) (j : Fin 32) : (after bA3 (after bA2 V1) (Proc.devRef .tc main_while0b_v82) : Vec Ideal S64x32 .i32) (ix2 b j)
      = word (back f t k b j) :=
    bA3_at _ (score f t (fwd f t k) k b j) b j fun i => (bA2_sum_at V1 b i j).trans (s1 b i j)
  have k3 {r : Ref sig .tc} (h3 : r ∉ bA3_W) (h2 : r ∉ bA2_W) :
      after bA3 (after bA2 V1) (Proc.devRef .tc r) = V1 (Proc.devRef .tc r) := by
    rw [after_of_writes_sub bA3 _ bA3_writes h3, after_of_writes_sub bA2 _ bA2_writes h2]
  have b2' : after bA3 (after bA2 V1) (Proc.devRef .tc main_while0b_v81) = after bA2 V1 (Proc.devRef .tc main_while0b_v81) :=
    after_of_writes_sub bA3 _ bA3_writes (by decide +kernel)
  rw [← b2'] at b2
  have a3 (b : Fin 64) : (after bA3 (after bA2 V1) (Proc.devRef .tc main_while0b_v77) : Vec Ideal S64 .i1) (ix1 b) = 1#1 := by
    rw [k3 (by decide +kernel) (by decide +kernel)]; exact a1 b
  have d3 := (k3 (r := main_v15_2) (by decide +kernel) (by decide +kernel)).trans d1
  have p3 := (k3 (r := main_v15_4) (by decide +kernel) (by decide +kernel)).trans p1
  have q3 := (k3 (r := main_v15_5) (by decide +kernel) (by decide +kernel)).trans q1
  clear k1 k3 b2'
  generalize after bA3 (after bA2 V1) = V3 at b2 b3 a3 d3 p3 q3 ⊢
  -- the mask keeps every pointer
  have b5 (b : Fin 64) (j : Fin 32) : (after bA5 (after bA4 V3) (Proc.devRef .tc main_while0b_v84) : Vec Ideal S64x32 .i32) (ix2 b j)
      = word (back f t k b j) := (bA45_at V3 b j (a3 b)).trans (b3 b j)
  have k5 {r : Ref sig .tc} (h5 : r ∉ bA5_W) (h4 : r ∉ bA4_W) :
      after bA5 (after bA4 V3) (Proc.devRef .tc r) = V3 (Proc.devRef .tc r) := by
    rw [after_of_writes_sub bA5 _ bA5_writes h5, after_of_writes_sub bA4 _ bA4_writes h4]
  have m5 := k5 (r := main_while0b_v81) (by decide +kernel) (by decide +kernel)
  have d5 := (k5 (r := main_v15_2) (by decide +kernel) (by decide +kernel)).trans d3
  have p5 := (k5 (r := main_v15_4) (by decide +kernel) (by decide +kernel)).trans p3
  have q5 := (k5 (r := main_v15_5) (by decide +kernel) (by decide +kernel)).trans q3
  clear k5
  rw [← m5] at b2
  generalize after bA5 (after bA4 V3) = V5 at b2 b5 d5 p5 q5 ⊢
  -- the two rows put in place
  obtain ⟨e3, e4, e5⟩ := bA8_at (after bA7 (after bA6 V5))
  refine ⟨fun b j => ?_, fun s b j hs => ?_, fun s b j hs => ?_⟩
  · rw [e3, after_of_writes_sub bA7 _ bA7_writes (by decide +kernel), after_of_writes_sub bA6 _ bA6_writes (by decide +kernel)]
    exact b2 b j
  · rw [e4, after_of_writes_sub bA7 _ bA7_writes (by decide +kernel)]
    refine (bA6_at V5 k hk d5 s b j).trans ?_
    by_cases e : s.val = k
    · rw [if_pos e, e]
      exact b2 b j
    · rw [if_neg e, p5]
      exact h.history s b j (by omega)
  · rw [e5]
    refine (bA7_at (after bA6 V5) k hk (by rw [after_of_writes_sub bA6 _ bA6_writes (by decide +kernel), d5]) s b j).trans ?_
    rw [after_of_writes_sub bA6 _ bA6_writes (by decide +kernel), after_of_writes_sub bA6 _ bA6_writes (by decide +kernel)]
    by_cases e : s.val = k
    · rw [if_pos e, e]
      exact b5 b j
    · rw [if_neg e, q5]
      exact h.pointers s b j (by omega)

/-- After all its trips and its last condition the first loop has made every row. -/
theorem outA_made (m : (ℓ : Loc nD τ sig) → Buf (Elt Ideal) ℓ) (c : Dev nD) (hin : InA f t (entA m c)) (h : MadeA f t 0 (entA m c)) :
    MadeA f t 511 (outA m c) := by
  have hk : ∀ k ≤ 511, InA f t (atA m k c) ∧ MadeA f t k (atA m k c) := fun k => by
    induction k with
    | zero => exact fun _ => ⟨hin, h⟩
    | succ k ih =>
      intro hk
      obtain ⟨h1, h2⟩ := ih (by omega)
      exact ⟨h1.trip, h2.trip (by omega) ((ctrA m c k).trans (by rw [iv_eq])) h1⟩
  obtain ⟨-, h⟩ := hk 511 le_rfl
  have e {r : Ref sig .tc} (hr : r ∉ condA_W) : outA m c (Proc.devRef .tc r) = atA m 511 c (Proc.devRef .tc r) :=
    after_of_writes_sub condA _ condA_writes hr
  refine ⟨fun b j => ?_, fun s b j hs => ?_, fun s b j hs => ?_⟩
  · rw [e (by decide +kernel)]; exact h.row b j
  · rw [e (by decide +kernel)]; exact h.history s b j hs
  · rw [e (by decide +kernel)]; exact h.pointers s b j hs

end Cert.ReferenceIdeal.Own
-- ==== Proof.RefLoopB.lean ====
module

public import proofs.«01_k».proof.Proof.RefBodyB
public import proofs.«01_k».proof.Proof.RefLoopA

/-! The reference's backward loop: after `k` trips it carries the tag `k` steps back from the best last one, and the
    decoded tags of the steps made so far. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

variable (f : Fin 64 → Fin 512 → Fin 32 → EReal) (t : Fin 32 → Fin 32 → EReal)

/-- What the second loop's trips read and leave alone: the pointers, last step first. -/
def InB (X : Valuation τ sig (Elt Ideal)) : Prop := ∀ (s : Fin 511) (b : Fin 64) (j : Fin 32),
  (X (Proc.devRef .tc main_v71_0) : Vec Ideal S511x64x32 .i32) (ix3 s b j) = word (back f t (510 - s.val) b j)

/-- What the second loop has made before trip `k`. -/
structure MadeB (k : ℕ) (X : Valuation τ sig (Elt Ideal)) : Prop where
  tag : ∀ b : Fin 64, (X (Proc.devRef .tc main_v71_2) : Vec Ideal S64 .i32) (ix1 b) = word (ptr f t k b)
  tags : ∀ (s : Fin 511) (b : Fin 64), s.val < k →
    (X (Proc.devRef .tc main_v71_3) : Vec Ideal S511x64 .i32) (ix2 s b) = word (ptr f t (s.val + 1) b)

variable {f t}

/-- A trip leaves the pointers as they were. -/
theorem InB.trip {X : Valuation τ sig (Elt Ideal)} (h : InB f t X) : InB f t (afterL bodyB (after condB X)) := by
  intro s b j
  rw [tripB_keeps (r := main_v71_0) (by decide +kernel)]
  exact h s b j

/-- One trip goes one step back. -/
theorem MadeB.trip {X : Valuation τ sig (Elt Ideal)} {k : ℕ} (hk : k < 511) (hc : X (Proc.devRef .tc main_v71_1) = fun _ => BitVec.ofNat 32 k)
    (hin : InB f t X) (h : MadeB f t k X) : MadeB f t (k + 1) (afterL bodyB (after condB X)) := by
  simp only [afterL_cons, afterL_nil]
  -- the row of pointers, and the current tag as a column
  have k1 {r : Ref sig .tc} (h1 : r ∉ bB1_W) (h0 : r ∉ bB0_W) (hC : r ∉ condB_W) :
      after bB1 (after bB0 (after condB X)) (Proc.devRef .tc r) = X (Proc.devRef .tc r) := by
    rw [after_of_writes_sub bB1 _ bB1_writes h1, after_of_writes_sub bB0 _ bB0_writes h0, after_of_writes_sub condB _ condB_writes hC]
  have a0 (b : Fin 64) (j : Fin 32) : (after bB1 (after bB0 (after condB X)) (Proc.devRef .tc main_while1b_v76) : Vec Ideal S64x32 .i32) (ix2 b j)
      = word (back f t (510 - k) b j) := by
    rw [after_of_writes_sub bB1 _ bB1_writes (by decide +kernel)]
    refine (bB0_at _ k hk (by rw [after_of_writes_sub condB _ condB_writes (by decide +kernel), hc]) b j).trans ?_
    rw [after_of_writes_sub condB _ condB_writes (by decide +kernel)]
    exact hin ⟨k, hk⟩ b j
  have a1 (b : Fin 64) : (after bB1 (after bB0 (after condB X)) (Proc.devRef .tc main_while1b_v77) : Vec Ideal S64x1 .i32) (ix2 b 0)
      = word (ptr f t k b) := by
    refine (bB1_at _ b).trans ?_
    rw [after_of_writes_sub bB0 _ bB0_writes (by decide +kernel), after_of_writes_sub condB _ condB_writes (by decide +kernel)]
    exact h.tag b
  have d1 := (k1 (r := main_v71_1) (by decide +kernel) (by decide +kernel) (by decide +kernel)).trans hc
  have p1 := k1 (r := main_v71_3) (by decide +kernel) (by decide +kernel) (by decide +kernel)
  clear k1
  generalize after bB1 (after bB0 (after condB X)) = V1 at a0 a1 d1 p1 ⊢
  -- the look-up
  have b3 (b : Fin 64) : (after bB3 (after bB2 V1) (Proc.devRef .tc main_while1b_v79) : Vec Ideal S64 .i32) (ix1 b)
      = word (ptr f t (k + 1) b) :=
    ((bB3_at _ b).trans (bB2_at V1 b (ptr f t k b) (a1 b))).trans (a0 b (ptr f t k b))
  have k3 {r : Ref sig .tc} (h3 : r ∉ bB3_W) (h2 : r ∉ bB2_W) :
      after bB3 (after bB2 V1) (Proc.devRef .tc r) = V1 (Proc.devRef .tc r) := by
    rw [after_of_writes_sub bB3 _ bB3_writes h3, after_of_writes_sub bB2 _ bB2_writes h2]
  have d3 := (k3 (r := main_v71_1) (by decide +kernel) (by decide +kernel)).trans d1
  have p3 := (k3 (r := main_v71_3) (by decide +kernel) (by decide +kernel)).trans p1
  clear k3
  generalize after bB3 (after bB2 V1) = V3 at b3 d3 p3 ⊢
  -- the row put in place
  obtain ⟨e2, e3⟩ := bB5_at (after bB4 V3)
  refine ⟨fun b => ?_, fun s b hs => ?_⟩
  · rw [e2, after_of_writes_sub bB4 _ bB4_writes (by decide +kernel)]
    exact b3 b
  · rw [e3]
    refine (bB4_at V3 k hk d3 s b).trans ?_
    by_cases e : s.val = k
    · rw [if_pos e, e]
      exact b3 b
    · rw [if_neg e, p3]
      exact h.tags s b (by omega)

/-- After all its trips and its last condition the second loop has decoded every tag but the last. -/
theorem outB_made (m : (ℓ : Loc nD τ sig) → Buf (Elt Ideal) ℓ) (c : Dev nD) (hin : InB f t (entB m c)) (h : MadeB f t 0 (entB m c)) :
    MadeB f t 511 (outB m c) := by
  have hk : ∀ k ≤ 511, InB f t (atB m k c) ∧ MadeB f t k (atB m k c) := fun k => by
    induction k with
    | zero => exact fun _ => ⟨hin, h⟩
    | succ k ih =>
      intro hk
      obtain ⟨h1, h2⟩ := ih (by omega)
      exact ⟨h1.trip, h2.trip (by omega) ((ctrB m c k).trans (by rw [iv_eq])) h1⟩
  obtain ⟨-, h⟩ := hk 511 le_rfl
  have e {r : Ref sig .tc} (hr : r ∉ condB_W) : outB m c (Proc.devRef .tc r) = atB m 511 c (Proc.devRef .tc r) :=
    after_of_writes_sub condB _ condB_writes hr
  refine ⟨fun b => ?_, fun s b hs => ?_⟩
  · rw [e (by decide +kernel)]; exact h.tag b
  · rw [e (by decide +kernel)]; exact h.tags s b hs

end Cert.ReferenceIdeal.Own
-- ==== Proof.RefMid.lean ====
module

public import proofs.«01_k».proof.Proof.RefLoopB

/-! The reference's straight lines, each read at one element: before the first loop, between the loops (where a mask set
    everywhere makes every length 512, so that the look-up takes the last row and the write stays in it), after the second. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

variable (Y : Valuation τ sig (Elt Ideal))

/-- The features read off argument 0: sequence, place, tag. -/
def featsOf (x : Vec Ideal S64x512x32 .f32) (b : Fin 64) (s : Fin 512) (j : Fin 32) : EReal := x (ix3 b s j)

/-- The transitions read off argument 2: from, to. -/
def transOf (x : Vec Ideal S32x32 .f32) (i j : Fin 32) : EReal := x (ix2 i j)

/-- The features of a valuation. -/
abbrev fOf : Fin 64 → Fin 512 → Fin 32 → EReal := featsOf (Y (Proc.devRef .tc main_arg0))

/-- The transitions of a valuation. -/
abbrev tOf : Fin 32 → Fin 32 → EReal := transOf (Y (Proc.devRef .tc main_arg2))

/-! ## Before the first loop -/

/-- The stacked scores: row `s` is step `s + 1`. -/
theorem pA0_scores_at (s : Fin 511) (b : Fin 64) (i j : Fin 32) :
    (after pA0 Y (Proc.devRef .tc main_v15_0) : Vec Ideal S511x64x32x32 .f32) (ix4 s b i j)
      = fOf Y b (Fin.ofNat 512 (s.val + 1)) j + tOf Y i j := by
  have e : Fin.ofNat 512 (s.val + 1) = (⟨1 + s.val, by omega⟩ : Fin 512) :=
    Fin.ext (by show (s.val + 1) % 512 = 1 + s.val; omega)
  rw [e]
  after_reads_simp
  simp only [id]
  pointwise
  rfl

/-- The mask's rows: row `s` is place `s + 1`. -/
theorem pA0_mask_at (s : Fin 511) (b : Fin 64) :
    (after pA0 Y (Proc.devRef .tc main_v15_1) : Vec Ideal S511x64 .i1) (ix2 s b)
      = (Y (Proc.devRef .tc main_arg1) : Vec Ideal S64x512 .i1) (ix2 b ⟨1 + s.val, by omega⟩) := by
  after_reads_simp
  simp only [id]
  pointwise

/-- The first row: the features of place 0 plus the transitions out of the start tag. -/
theorem pA0_row_at (b : Fin 64) (j : Fin 32) :
    (after pA0 Y (Proc.devRef .tc main_v15_3) : Vec Ideal S64x32 .f32) (ix2 b j) = fOf Y b 0 j + tOf Y 30 j := by
  after_reads_at
  rfl

/-! ## Between the loops -/

/-- A sum of `n` ones is the word of `n`. -/
theorem fold_ones {ι : Type} [DecidableEq ι] (s : Finset ι) : s.fold IntOp.addi 0#32 (fun _ => 1#32) = BitVec.ofNat 32 s.card := by
  refine Finset.induction_on s (by rw [Finset.fold_empty, Finset.card_empty]) fun a s ha ih => ?_
  rw [Finset.fold_insert ha, ih, Finset.card_insert_of_notMem ha]
  show 1#32 + BitVec.ofNat 32 s.card = _
  rw [Nat.add_comm, BitVec.ofNat_add]

/-- Where the mask is set everywhere the last place is 511. -/
theorem pA1_last_at (hm : ∀ (b : Fin 64) (s : Fin 512), (Y (Proc.devRef .tc main_arg1) : Vec Ideal S64x512 .i1) (ix2 b s) = 1#1) (b : Fin 64) :
    (after pA1 Y (Proc.devRef .tc main_v22) : Vec Ideal S64 .i32) (ix1 b) = 511#32 := by
  after_reads_at
  simp only [hm]
  rw [show (BitVec.setWidth 32 1#1) = 1#32 from rfl, fold_ones]
  rfl

/-- The same, as the look-up's index. -/
theorem pA1_index_at (hm : ∀ (b : Fin 64) (s : Fin 512), (Y (Proc.devRef .tc main_arg1) : Vec Ideal S64x512 .i1) (ix2 b s) = 1#1) (b : Fin 64) :
    (after pA1 Y (Proc.devRef .tc main_v23) : Vec Ideal S64x1x1 .i32) (ix3 b 0 0) = 511#32 := by
  after_reads_at
  simp only [hm]
  rw [show (BitVec.setWidth 32 1#1) = 1#32 from rfl, fold_ones]
  rfl

/-- The last row of the whole history is the last row the loop made. -/
theorem pA1_history_at (b : Fin 64) (j : Fin 32) :
    (after pA1 Y (Proc.devRef .tc main_v18) : Vec Ideal S64x512x32 .f32) (ix3 b 511 j)
      = (Y (Proc.devRef .tc main_v15_4) : Vec Ideal S511x64x32 .f32) (ix3 510 b j) := by
  after_reads_at
  after_reads_simp

/-- At the index 511 the look-up takes the history's last row. -/
theorem pA2_at (b : Fin 64) (j : Fin 32)
    (hi : (Y (Proc.devRef .tc main_v23) : Vec Ideal S64x1x1 .i32) (ix3 b 0 0) = 511#32) :
    (after pA2 Y (Proc.devRef .tc main_v24) : Vec Ideal S64x1x32 .f32) (ix3 b 0 j)
      = (Y (Proc.devRef .tc main_v18) : Vec Ideal S64x512x32 .f32) (ix3 b 511 j) := by
  have hx (x : Fin 1) : (Y (Proc.devRef .tc main_v23) : Vec Ideal S64x1x1 .i32) (ix3 b 0 x) = 511#32 := by
    obtain rfl : x = 0 := Subsingleton.elim _ _
    exact hi
  after_reads_at
  rw [gather_row_at _ _ b j 511 (by
    show BitVec.toInt (Scalar.select (IntOp.cmpi .slt ((Y (Proc.devRef .tc main_v23) : Vec Ideal S64x1x1 .i32) (ix3 b 0 0)) 0#32) _
      ((Y (Proc.devRef .tc main_v23) : Vec Ideal S64x1x1 .i32) (ix3 b 0 0))) = _
    rw [hi]
    rfl)]
  simp only [hx]
  rfl

/-- The looked-up values plus the transitions. -/
theorem pA3_at (p : Fin 32 → EReal) (b : Fin 64) (i j : Fin 32)
    (hp : (Y (Proc.devRef .tc main_v24) : Vec Ideal S64x1x32 .f32) (ix3 b 0 i) = p i) :
    (after pA3 Y (Proc.devRef .tc main_v30) : Vec Ideal S64x32x32 .f32) (ix3 b i j) = p i + tOf Y i j := by
  rw [← hp]
  after_reads_at
  rfl

/-- Their argmax over the earlier tag is the least best one's word. -/
theorem pA4_at (s : Fin 32 → EReal) (b : Fin 64) (j : Fin 32)
    (hs : ∀ i, (Y (Proc.devRef .tc main_v30) : Vec Ideal S64x32x32 .f32) (ix3 b i j) = s i) :
    (after pA4 Y (Proc.devRef .tc main_v31) : Vec Ideal S64x32 .i32) (ix2 b j) = word (best s) := by
  refine Eq.trans ?_ (argmax_at (Y (Proc.devRef .tc main_v30) : Vec Ideal S64x32x32 .f32) s b j hs
    reducesTo_S64x32x32_S64x32_d1 h_S_)
  after_reads_at

/-- The best last tag is the argmax at the end tag. -/
theorem pA5_last_at (b : Fin 64) :
    (after pA5 Y (Proc.devRef .tc main_v33) : Vec Ideal S64 .i32) (ix1 b)
      = (Y (Proc.devRef .tc main_v31) : Vec Ideal S64x32 .i32) (ix2 b 31) := by
  after_reads_at

/-- The pointers, sequence first: every row but the last is the loop's. -/
theorem pA5_pointers_at (b : Fin 64) (s : Fin 512) (hs : s.val < 511) (j : Fin 32) :
    (after pA5 Y (Proc.devRef .tc main_v36) : Vec Ideal S64x512x32 .i32) (ix3 b s j)
      = (Y (Proc.devRef .tc main_v15_5) : Vec Ideal S511x64x32 .i32) (ix3 ⟨s.val, hs⟩ b j) := by
  after_reads_at
  rw [dif_pos hs]
  after_reads_simp

/-- The last places as a column. -/
theorem pA5_places_at (b : Fin 64) :
    (after pA5 Y (Proc.devRef .tc main_v41) : Vec Ideal S64x1 .i32) (ix2 b 0)
      = (Y (Proc.devRef .tc main_v22) : Vec Ideal S64 .i32) (ix1 b) := by
  after_reads_at

/-- Where every last place is 511 the write stays in the last row, so that the reversed pointers are the loop's rows, last first. -/
theorem pB0_pointers_at (hl : ∀ b : Fin 64, (Y (Proc.devRef .tc main_v41) : Vec Ideal S64x1 .i32) (ix2 b 0) = 511#32)
    (s : Fin 511) (b : Fin 64) (j : Fin 32) :
    (after pB0 Y (Proc.devRef .tc main_v71_0) : Vec Ideal S511x64x32 .i32) (ix3 s b j)
      = (Y (Proc.devRef .tc main_v36) : Vec Ideal S64x512x32 .i32) (ix3 b ⟨510 - s.val, by omega⟩ j) := by
  have hidx (c : Fin 64) (i : Fin 32) :
      (upto pB0 Y 22 (Proc.devRef .tc main_v62) : Vec Ideal S64x32x1 .i32) (ix3 c i 0) = 511#32 := by
    after_reads_at
    rw [hl]
    rfl
  after_reads_simp
  simp only [id]
  pointwise
  have hr : (⟨s.rev.val, by omega⟩ : Fin 512) = ⟨510 - s.val, by omega⟩ := by
    apply Fin.ext
    show s.rev.val = 510 - s.val
    rw [Fin.val_rev]
    omega
  show Host.scatter _ _ _ _ _ (ix3 b (⟨s.rev.val, by omega⟩ : Fin 512) j) = _
  rw [hr]
  refine scatter_row_ne _ _ _ b ⟨510 - s.val, by omega⟩ j ?_
  · intro c i
    pointwise
    show BitVec.toInt ((upto pB0 Y 22 (Proc.devRef .tc main_v62) : Vec Ideal S64x32x1 .i32) (ix3 c i 0)) ≠ ((510 - s.val : ℕ) : Int)
    rw [hidx]
    show (511 : Int) ≠ ((510 - s.val : ℕ) : Int)
    omega

/-- The second loop starts at the best last tag. -/
theorem pB0_tag_at (b : Fin 64) :
    (after pB0 Y (Proc.devRef .tc main_v71_2) : Vec Ideal S64 .i32) (ix1 b)
      = (Y (Proc.devRef .tc main_v33) : Vec Ideal S64 .i32) (ix1 b) := by
  after_reads_at
  rfl

/-! ## After the second loop -/

/-- Every result but the last is the second loop's, last first. -/
theorem pB1_at (b : Fin 64) (s : Fin 512) (hs : s.val < 511) :
    (after pB1 Y (Proc.devRef .tc main_v75) : Vec Ideal S64x512 .i32) (ix2 b s)
      = (Y (Proc.devRef .tc main_v71_3) : Vec Ideal S511x64 .i32) (ix2 ⟨510 - s.val, by omega⟩ b) := by
  after_reads_at
  rw [dif_pos hs]
  after_reads_simp
  pointwise
  have hr : (⟨s.val, hs⟩ : Fin 511).rev = ⟨510 - s.val, by omega⟩ := by
    apply Fin.ext
    rw [Fin.val_rev]
    show 511 - (s.val + 1) = 510 - s.val
    omega
  show (Y (Proc.devRef .tc main_v71_3) : Vec Ideal S511x64 .i32) (ix2 (⟨s.val, hs⟩ : Fin 511).rev b) = _
  rw [hr]

/-- The last result is the best last tag. -/
theorem pB1_last_at (b : Fin 64) :
    (after pB1 Y (Proc.devRef .tc main_v75) : Vec Ideal S64x512 .i32) (ix2 b 511)
      = (Y (Proc.devRef .tc main_v33) : Vec Ideal S64 .i32) (ix1 b) := by
  after_reads_at
  after_reads_simp
  pointwise

end Cert.ReferenceIdeal.Own
-- ==== Proof.RefFinal.lean ====
module

public import proofs.«01_k».proof.Proof.RefMid

/-! The reference's result: where the mask is set everywhere, @main ends with the decoded tags. -/

@[expose] public section

set_option maxRecDepth 16384

noncomputable section

namespace Cert.ReferenceIdeal.Own

open Cert.ReferenceIdeal Cert.ReferenceIdeal.Gen Cert.Viterbi
open Idealize.ShloMosaic Idealize.ShloMosaic.TcCoe Idealize.ShloMosaic.Tactic
open Idealize.SL.Sem Idealize.ShloMosaic.StableHlo

/-! ## One straight line at a time, over the valuation it starts from -/

section

variable {f : Fin 64 → Fin 512 → Fin 32 → EReal} {t : Fin 32 → Fin 32 → EReal}

/-- Before the first loop: the loop's inputs, and the forward values of place 0. -/
theorem first_made (X : Valuation τ sig (Elt Ideal)) (hf : fOf X = f) (ht : tOf X = t)
    (hm : ∀ (b : Fin 64) (s : Fin 512), (X (Proc.devRef .tc main_arg1) : Vec Ideal S64x512 .i1) (ix2 b s) = 1#1) :
    InA f t (afterL preI X) ∧ MadeA f t 0 (afterL preI X) := by
  subst hf ht
  simp only [afterL_cons, afterL_nil]
  exact ⟨⟨fun s b i j => pA0_scores_at X s b i j, fun s b => (pA0_mask_at X s b).trans (hm _ _)⟩,
    ⟨fun b j => pA0_row_at X b j, fun _ _ _ h => absurd h (Nat.not_lt_zero _), fun _ _ _ h => absurd h (Nat.not_lt_zero _)⟩⟩

/-- Between the loops: the best last tag, and the pointers last step first. -/
theorem mid_made (X : Valuation τ sig (Elt Ideal)) (ht : tOf X = t)
    (hm : ∀ (b : Fin 64) (s : Fin 512), (X (Proc.devRef .tc main_arg1) : Vec Ideal S64x512 .i1) (ix2 b s) = 1#1)
    (h : MadeA f t 511 X) :
    InB f t (afterL midI X) ∧ MadeB f t 0 (afterL midI X)
      ∧ ∀ b : Fin 64, (afterL midI X (Proc.devRef .tc main_v33) : Vec Ideal S64 .i32) (ix1 b) = word (ptr f t 0 b) := by
  simp only [afterL_cons, afterL_nil]
  -- the last forward values
  have h2 (b : Fin 64) (i : Fin 32) :
      (after pA2 (after pA1 X) (Proc.devRef .tc main_v24) : Vec Ideal S64x1x32 .f32) (ix3 b 0 i) = fwd f t 511 i b :=
    (pA2_at (after pA1 X) b i (pA1_index_at X hm b)).trans ((pA1_history_at X b i).trans (h.history 510 b i (by decide)))
  -- with the transitions added
  have ht2 : tOf (after pA2 (after pA1 X)) = t := by
    rw [← ht]
    simp only [tOf]
    rw [after_of_writes_sub pA2 _ pA2_writes (by decide +kernel), after_of_writes_sub pA1 _ pA1_writes (by decide +kernel)]
  have h3 (b : Fin 64) (i j : Fin 32) :
      (after pA3 (after pA2 (after pA1 X)) (Proc.devRef .tc main_v30) : Vec Ideal S64x32x32 .f32) (ix3 b i j) = fwd f t 511 i b + t i j := by
    exact (pA3_at _ (fun i => fwd f t 511 i b) b i j (h2 b i)).trans
      (congrArg (fun u : Fin 32 → Fin 32 → EReal => fwd f t 511 i b + u i j) ht2)
  -- the best last tag
  have h4 (b : Fin 64) : (after pA4 (after pA3 (after pA2 (after pA1 X))) (Proc.devRef .tc main_v31) : Vec Ideal S64x32 .i32) (ix2 b 31)
      = word (ptr f t 0 b) := pA4_at _ (fun i => fwd f t 511 i b + t i 31) b 31 (fun i => h3 b i 31)
  have h5 (b : Fin 64) : (after pA5 (after pA4 (after pA3 (after pA2 (after pA1 X)))) (Proc.devRef .tc main_v33) : Vec Ideal S64 .i32) (ix1 b)
      = word (ptr f t 0 b) := (pA5_last_at _ b).trans (h4 b)
  -- the loop's pointers and the last places, past the pieces that leave them alone
  have k4 {r : Ref sig .tc} (h4 : r ∉ pA4_W) (h3 : r ∉ pA3_W) (h2 : r ∉ pA2_W) :
      after pA4 (after pA3 (after pA2 (after pA1 X))) (Proc.devRef .tc r) = after pA1 X (Proc.devRef .tc r) := by
    rw [after_of_writes_sub pA4 _ pA4_writes h4, after_of_writes_sub pA3 _ pA3_writes h3, after_of_writes_sub pA2 _ pA2_writes h2]
  have hp (s : Fin 511) (b : Fin 64) (j : Fin 32) :
      (after pA4 (after pA3 (after pA2 (after pA1 X))) (Proc.devRef .tc main_v15_5) : Vec Ideal S511x64x32 .i32) (ix3 s b j)
        = word (back f t s.val b j) := by
    rw [k4 (by decide +kernel) (by decide +kernel) (by decide +kernel), after_of_writes_sub pA1 _ pA1_writes (by decide +kernel)]
    exact h.pointers s b j s.isLt
  have hl (b : Fin 64) : (after pA5 (after pA4 (after pA3 (after pA2 (after pA1 X)))) (Proc.devRef .tc main_v41) : Vec Ideal S64x1 .i32) (ix2 b 0)
      = 511#32 := by
    refine (pA5_places_at _ b).trans ?_
    rw [k4 (by decide +kernel) (by decide +kernel) (by decide +kernel)]
    exact pA1_last_at X hm b
  refine ⟨fun s b j => ?_, ⟨fun b => (pB0_tag_at _ b).trans (h5 b), fun _ _ h => absurd h (Nat.not_lt_zero _)⟩, fun b => ?_⟩
  · exact (pB0_pointers_at _ hl s b j).trans ((pA5_pointers_at _ b _ (by show 510 - s.val < 511; omega) j).trans (hp _ b j))
  · rw [after_of_writes_sub pB0 _ pB0_writes (by decide +kernel)]
    exact h5 b

/-- After the second loop: the decoded tags, put in order. -/
theorem last_made (X : Valuation τ sig (Elt Ideal)) (h : MadeB f t 511 X)
    (hl : ∀ b : Fin 64, (X (Proc.devRef .tc main_v33) : Vec Ideal S64 .i32) (ix1 b) = word (ptr f t 0 b)) (b : Fin 64) (s : Fin 512) :
    (afterL postI X (Proc.devRef .tc main_v75) : Vec Ideal S64x512 .i32) (ix2 b s) = decoded f t b s := by
  simp only [afterL_cons, afterL_nil]
  by_cases hs : s.val < 511
  · refine (pB1_at X b s hs).trans ((h.tags _ b (by show 510 - s.val < 511; omega)).trans ?_)
    unfold decoded
    rw [show 511 - s.val = 510 - s.val + 1 by omega]
  · obtain rfl : s = 511 := Fin.ext (by show s.val = 511; omega)
    exact (pB1_last_at X b).trans (hl b)

end

/-! ## The whole program -/

variable (m : (ℓ : Loc nD τ sig) → Buf (Elt Ideal) ℓ) (ρ : Dev nD → PrngReg)

/-- The features as the program was launched with them. -/
def feats (c : Dev nD) : Fin 64 → Fin 512 → Fin 32 → EReal := featsOf (m ((c.tc : Thread nD τ).loc main_arg0))

/-- The transitions as launched. -/
def trans (c : Dev nD) : Fin 32 → Fin 32 → EReal := transOf (m ((c.tc : Thread nD τ).loc main_arg2))

/-- @main's result is the decoded tags, where the mask is set everywhere. -/
theorem fin_at (c : Dev nD)
    (hm : ∀ (b : Fin 64) (s : Fin 512), (m ((c.tc : Thread nD τ).loc main_arg1) : Vec Ideal S64x512 .i1) (ix2 b s) = 1#1)
    (b : Fin 64) (s : Fin 512) :
    (fin m c (Proc.devRef .tc main_v75) : Vec Ideal S64x512 .i32) (ix2 b s) = decoded (feats m c) (trans m c) b s := by
  have hA := first_made (f := feats m c) (t := trans m c) (launchContents m c) rfl rfl hm
  have hA' := outA_made m c hA.1 hA.2
  have e1 : outA m c (Proc.devRef .tc main_arg1) = m ((c.tc : Thread nD τ).loc main_arg1) :=
    (outA_keeps m (by decide +kernel) c).trans (after_of_writes_sub pA0 _ pA0_writes (by decide +kernel))
  have e2 : outA m c (Proc.devRef .tc main_arg2) = m ((c.tc : Thread nD τ).loc main_arg2) :=
    (outA_keeps m (by decide +kernel) c).trans (after_of_writes_sub pA0 _ pA0_writes (by decide +kernel))
  have hB := mid_made (f := feats m c) (t := trans m c) (outA m c) (congrArg transOf e2)
    (fun b s => (congrFun e1 (ix2 b s)).trans (hm b s)) hA'
  have hB' := outB_made m c hB.1 hB.2.1
  exact last_made (outB m c) hB' (fun b => (congrFun (outB_keeps m (r := main_v33) (by decide +kernel) c) (ix1 b)).trans (hB.2.2 b)) b s

/-- Every fair execution ends with @main's result holding the decoded tags where the mask is set everywhere, the three
    arguments as launched. -/
theorem run (hm : ∀ (c : Dev nD) (b : Fin 64) (s : Fin 512),
      (m ((c.tc : Thread nD τ).loc main_arg1) : Vec Ideal S64x512 .i1) (ix2 b s) = 1#1) :
    θ_run defs (onTc (τ := τ) (main (F := Ideal))) ⟨m, fun _ => 0, ρ⟩ (fun r => ∀ c : Dev nD,
      r.2.mem ((c.tc : Thread nD τ).loc main_v75) = (fun j => decoded (feats m c) (trans m c) (j 0) (j 1) : Vec Ideal S64x512 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c main_v75 rfl).trans (funext fun j => (congrArg _ (eq_ix2 (n0 := 64) (n1 := 512) j)).trans (fin_at m c (hm c) (j 0) (j 1))),
     (h.1 c main_arg0 rfl).trans (fin_keeps m (by decide +kernel) (by decide +kernel) (by decide +kernel) (by decide +kernel) (by decide +kernel) c),
     (h.1 c main_arg1 rfl).trans (fin_keeps m (by decide +kernel) (by decide +kernel) (by decide +kernel) (by decide +kernel) (by decide +kernel) c),
     (h.1 c main_arg2 rfl).trans (fin_keeps m (by decide +kernel) (by decide +kernel) (by decide +kernel) (by decide +kernel) (by decide +kernel) c)⟩)
    (run_fold m ρ)

end Cert.ReferenceIdeal.Own

end
-- ==== Proof.Value.lean ====
/-
  The value claim: where the mask is set everywhere, the kernel and the reference end with one result, the decoded tags.
-/
module

public import proofs.«01_k».proof.Defs
public import proofs.«01_k».proof.Proof.Gen.Pre_full_mask
public import proofs.«01_k».proof.Proof.KFinal
public import proofs.«01_k».proof.Proof.RefFinal
public import Idealize.ShloMosaic.Lib.ReduceAll

@[expose] public section

noncomputable section

namespace Cert.Proof

open Idealize.ShloMosaic Idealize.ShloMosaic.TcCoe Idealize.SL.Sem

/-- A conjunction over the whole mask that is one sets every element of the mask. -/
theorem mask_full (x0 : Vec Ideal Cert.KernelIdeal.S64x512x32 .f32) (x1 : Vec Ideal Cert.KernelIdeal.S64x512 .i1) (x2 : Vec Ideal Cert.KernelIdeal.S32x32 .f32)
    (h : Cert.Pre_full_mask.fn (F := Ideal) x0 x1 x2 = fun _ => 1#1) (i : Cert.KernelIdeal.S64x512.Idx) : x1 i = 1#1 :=
  haveI : Subsingleton Cert.Pre_full_mask.S_.Idx := ⟨fun _ _ => funext fun a => a.elim0⟩
  Host.reduce_andi_all x1 (constantI Cert.Pre_full_mask.S_ 1 1#1) Cert.Pre_full_mask.Facts.reducesTo_S64x512_S_d0_1
    Cert.Pre_full_mask.Facts.h_S_ ix0 (congrFun h ix0) i

/-- From memories that agree on the arguments, the mask set everywhere, both programs end with the decoded tags. -/
theorem value : Cert.algebraic_KernelIdeal_ReferenceIdeal_pre_full_mask := by
  intro m g m' g' hpre hagree
  have hm (c : Dev Cert.ReferenceIdeal.nD) (b : Fin 64) (s : Fin 512) :
      (m' ((c.tc : Thread Cert.ReferenceIdeal.nD Cert.ReferenceIdeal.τ).loc Cert.ReferenceIdeal.main_arg1) : Vec Ideal Cert.KernelIdeal.S64x512 .i1) (ix2 b s)
        = 1#1 :=
    (congrFun (hagree c).2.1 (ix2 b s)).trans (mask_full _ _ _ (hpre c) (ix2 b s))
  have hf (c : Dev Cert.KernelIdeal.nD) : Cert.ReferenceIdeal.Own.feats m' c = Cert.KernelIdeal.Own.feats m c :=
    congrArg Cert.ReferenceIdeal.Own.featsOf (hagree c).1
  have ht (c : Dev Cert.KernelIdeal.nD) : Cert.ReferenceIdeal.Own.trans m' c = Cert.KernelIdeal.Own.trans m c :=
    congrArg Cert.ReferenceIdeal.Own.transOf (hagree c).2.2
  refine ⟨fun c => (fun j => Cert.Viterbi.decoded (Cert.KernelIdeal.Own.feats m c) (Cert.KernelIdeal.Own.trans m c) (j 0) (j 1)
      : Vec Ideal Cert.KernelIdeal.S64x512 .i32), Cert.KernelIdeal.Own.run m g, ?_⟩
  refine (θ_run Cert.ReferenceIdeal.defs _ _).mono (fun r h c => ⟨(h c).1.trans ?_, (h c).2⟩) (Cert.ReferenceIdeal.Own.run m' g' hm)
  rw [hf c, ht c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_full_mask
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The arguments and counters of the three programs, the idealization (no operation was rewritten), and the value claim. -/
theorem claim : Cert.Claim :=
  ⟨Cert.Kernel.Gen.facts, Cert.KernelIdeal.Gen.facts, Cert.ReferenceIdeal.Gen.facts, Cert.Pre_full_mask.Gen.facts,
    fun m g _ => kernel_quiescent m g,
    fun m g _ => Cert.KernelIdeal.Own.quiescent m g,
    fun m g _ => Cert.KernelIdeal.Own.quiescent m g,
    fun m g _ => Cert.ReferenceIdeal.Own.quiescent m g,
    fun m g _ => Cert.ReferenceIdeal.Own.quiescent m g,
    trivial,
    value⟩

end Cert.Proof

end
